-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S768x1x18432 : Shape := ⟨3, ![768, 1, 18432]⟩
abbrev S3x2304x7168 : Shape := ⟨3, ![3, 2304, 7168]⟩
abbrev S3x144x7168 : Shape := ⟨3, ![3, 144, 7168]⟩
abbrev S_ : Shape := ⟨0, ![]⟩

class Facts : Prop where
  bcast_S_S768x1x18432 : S_.BroadcastsInDim S768x1x18432 (![] : Fin 0 → Fin S768x1x18432.rank)
  reducesTo_S768x1x18432_S_d0_1_2 : S768x1x18432.ReducesTo [0, 1, 2] S_
  h_S_ : 0 < S_.numel
  bcast_S_S3x144x7168 : S_.BroadcastsInDim S3x144x7168 (![] : Fin 0 → Fin S3x144x7168.rank)
  reducesTo_S3x144x7168_S_d0_1_2 : S3x144x7168.ReducesTo [0, 1, 2] S_

variable [Facts]

def fn {F : FTy → Type} [FloatOps F] (main_arg0 : FVec F S768x1x18432 .bf16) (main_arg1 : IVec S3x2304x7168 8) (main_arg2 : FVec F S3x144x7168 .bf16) : IVec S_ 1 :=
  let main_v0 : FVec F S768x1x18432 .bf16 := Host.absf main_arg0
  let main_cst : FVec F S_ .bf16 := constant S_ .bf16 0x7F80#16
  let main_v1 : FVec F S768x1x18432 .bf16 := broadcastInDim S768x1x18432 ![] bcast_S_S768x1x18432 main_cst
  let main_v2 : IVec S768x1x18432 1 := cmpf .olt main_v0 main_v1
  let main_c : IVec S_ 1 := constantI S_ 1 1#1
  let main_v3 : IVec S_ 1 := (fun x v => Host.reduce IntOp.andi x v reducesTo_S768x1x18432_S_d0_1_2 h_S_) main_v2 main_c
  let main_v4 : FVec F S3x144x7168 .bf16 := Host.absf main_arg2
  let main_cst_0 : FVec F S_ .bf16 := constant S_ .bf16 0x7F80#16
  let main_v5 : FVec F S3x144x7168 .bf16 := broadcastInDim S3x144x7168 ![] bcast_S_S3x144x7168 main_cst_0
  let main_v6 : IVec S3x144x7168 1 := cmpf .olt main_v4 main_v5
  let main_c_1 : IVec S_ 1 := constantI S_ 1 1#1
  let main_v7 : IVec S_ 1 := (fun x v => Host.reduce IntOp.andi x v reducesTo_S3x144x7168_S_d0_1_2 h_S_) main_v6 main_c_1
  let main_v8 : IVec S_ 1 := andi main_v3 main_v7
  main_v8
-- ==== Kernel.lean ====
abbrev S768x1x18432 : Shape := ⟨3, ![768, 1, 18432]⟩
abbrev S3x2304x7168 : Shape := ⟨3, ![3, 2304, 7168]⟩
abbrev S3x144x7168 : Shape := ⟨3, ![3, 144, 7168]⟩
abbrev S768x18432 : Shape := ⟨2, ![768, 18432]⟩
abbrev S768x7168 : Shape := ⟨2, ![768, 7168]⟩
abbrev S768x2048 : Shape := ⟨2, ![768, 2048]⟩
abbrev S3x256x512 : Shape := ⟨3, ![3, 256, 512]⟩
abbrev S3x16x512 : Shape := ⟨3, ![3, 16, 512]⟩
abbrev S768x512 : Shape := ⟨2, ![768, 512]⟩
abbrev S8x4x16x128 : Shape := ⟨4, ![8, 4, 16, 128]⟩
abbrev S3x2x4x64x128 : Shape := ⟨5, ![3, 2, 4, 64, 128]⟩
abbrev S2048x512 : Shape := ⟨2, ![2048, 512]⟩
abbrev S1x16x128 : Shape := ⟨3, ![1, 16, 128]⟩
abbrev S16x128 : Shape := ⟨2, ![16, 128]⟩
abbrev S1x1x16x128 : Shape := ⟨4, ![1, 1, 16, 128]⟩
abbrev S1x256x128 : Shape := ⟨3, ![1, 256, 128]⟩
abbrev S256x128 : Shape := ⟨2, ![256, 128]⟩
abbrev S64x128 : Shape := ⟨2, ![64, 128]⟩
abbrev S1x1x1x64x128 : Shape := ⟨5, ![1, 1, 1, 64, 128]⟩
abbrev S8x128 : Shape := ⟨2, ![8, 128]⟩
abbrev S1x1x1x8x128 : Shape := ⟨5, ![1, 1, 1, 8, 128]⟩

abbrev nBuf : Space → Nat
  | .hbm => 5
  | .vmem => 13
  | .smem => 0
  | _ => 0

abbrev bufTy : (tb : Table) → Fin (tcTables nBuf tb) → BufTy
  | .hbm, ⟨0, _⟩ => ⟨S768x1x18432, .bf16⟩
  | .hbm, ⟨1, _⟩ => ⟨S3x2304x7168, .i8⟩
  | .hbm, ⟨2, _⟩ => ⟨S3x144x7168, .bf16⟩
  | .hbm, ⟨3, _⟩ => ⟨S768x18432, .bf16⟩
  | .hbm, ⟨4, _⟩ => ⟨S768x7168, .bf16⟩
  | .local _ .vmem, ⟨0, _⟩ => ⟨S768x2048, .bf16⟩
  | .local _ .vmem, ⟨1, _⟩ => ⟨S768x2048, .bf16⟩
  | .local _ .vmem, ⟨2, _⟩ => ⟨S3x256x512, .i8⟩
  | .local _ .vmem, ⟨3, _⟩ => ⟨S3x256x512, .i8⟩
  | .local _ .vmem, ⟨4, _⟩ => ⟨S3x16x512, .bf16⟩
  | .local _ .vmem, ⟨5, _⟩ => ⟨S3x16x512, .bf16⟩
  | .local _ .vmem, ⟨6, _⟩ => ⟨S768x512, .bf16⟩
  | .local _ .vmem, ⟨7, _⟩ => ⟨S768x512, .bf16⟩
  | .local _ .vmem, ⟨8, _⟩ => ⟨S768x512, .f32⟩
  | .local _ .vmem, ⟨9, _⟩ => ⟨S8x4x16x128, .f32⟩
  | .local _ .vmem, ⟨10, _⟩ => ⟨S3x2x4x64x128, .i32⟩
  | .local _ .vmem, ⟨11, _⟩ => ⟨S2048x512, .bf16⟩
  | .local _ .vmem, ⟨12, _⟩ => ⟨S2048x512, .bf16⟩
  | _, _ => ⟨S768x1x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![14, 9], ![false, false]⟩

@[reducible] def k0_t1_loop : Scf.Loop 32 :=
  let c0_i32 : BitVec 32 := 0#32
  let c4_i32 : BitVec 32 := 4#32
  let v490 : BitVec 32 := Scalar.addi c0_i32 c4_i32
  let c1_i32_362 : BitVec 32 := 1#32
  ⟨c0_i32, v490, c1_i32_362⟩
def k0_mult1 (k0_t1 : Fin k0_t1_loop.trips) : BitVec 32 :=
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let c128_i32 : BitVec 32 := 128#32
  let v509 : BitVec 32 := Scalar.muli v508 c128_i32
  v509
@[reducible] def k0_t2_loop : Scf.Loop 32 :=
  let c0_i32_379 : BitVec 32 := 0#32
  let c16_i32_380 : BitVec 32 := 16#32
  let v511 : BitVec 32 := Scalar.addi c0_i32_379 c16_i32_380
  let c1_i32_381 : BitVec 32 := 1#32
  ⟨c0_i32_379, v511, c1_i32_381⟩
def k0_off1 (k0_t1 : Fin k0_t1_loop.trips) (k0_t2 : Fin k0_t2_loop.trips) : Fin 4 → Nat :=
  let c0_385 : Index := 0#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v514 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v515 : Index := Scalar.indexCast v513
  let c0_386 : Index := 0#32
  ![0, v514.toNat, v515.toNat, 0]
def k0_off2 (k0_t1 : Fin k0_t1_loop.trips) (k0_t2 : Fin k0_t2_loop.trips) : Fin 4 → Nat :=
  let c1_387 : Index := 1#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v519 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v520 : Index := Scalar.indexCast v513
  let c0_388 : Index := 0#32
  ![1, v519.toNat, v520.toNat, 0]
def k0_off3 (k0_t1 : Fin k0_t1_loop.trips) (k0_t2 : Fin k0_t2_loop.trips) : Fin 4 → Nat :=
  let c2_389 : Index := 2#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v524 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v525 : Index := Scalar.indexCast v513
  let c0_390 : Index := 0#32
  ![2, v524.toNat, v525.toNat, 0]
def k0_off4 (k0_t1 : Fin k0_t1_loop.trips) (k0_t2 : Fin k0_t2_loop.trips) : Fin 4 → Nat :=
  let c3_391 : Index := 3#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v529 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v530 : Index := Scalar.indexCast v513
  let c0_392 : Index := 0#32
  ![3, v529.toNat, v530.toNat, 0]
def k0_off5 (k0_t1 : Fin k0_t1_loop.trips) (k0_t2 : Fin k0_t2_loop.trips) : Fin 4 → Nat :=
  let c4_393 : Index := 4#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v534 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v535 : Index := Scalar.indexCast v513
  let c0_394 : Index := 0#32
  ![4, v534.toNat, v535.toNat, 0]
def k0_off6 (k0_t1 : Fin k0_t1_loop.trips) (k0_t2 : Fin k0_t2_loop.trips) : Fin 4 → Nat :=
  let c5_395 : Index := 5#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v539 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v540 : Index := Scalar.indexCast v513
  let c0_396 : Index := 0#32
  ![5, v539.toNat, v540.toNat, 0]
def k0_off7 (k0_t1 : Fin k0_t1_loop.trips) (k0_t2 : Fin k0_t2_loop.trips) : Fin 4 → Nat :=
  let c6_397 : Index := 6#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v544 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v545 : Index := Scalar.indexCast v513
  let c0_398 : Index := 0#32
  ![6, v544.toNat, v545.toNat, 0]
def k0_off8 (k0_t1 : Fin k0_t1_loop.trips) (k0_t2 : Fin k0_t2_loop.trips) : Fin 4 → Nat :=
  let c7_399 : Index := 7#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v549 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let v550 : Index := Scalar.indexCast v513
  let c0_400 : Index := 0#32
  ![7, v549.toNat, v550.toNat, 0]
def k0_off9 (k0_t1 : Fin k0_t1_loop.trips) (k0_t2 : Fin k0_t2_loop.trips) (c0_i32_402 : BitVec 32) : Fin 5 → Nat :=
  let c0_403 : Index := 0#32
  let c0_404 : Index := 0#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v556 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let v555 : BitVec 32 := Scalar.addi v554 c0_i32_402
  let v557 : Index := Scalar.indexCast v555
  let c0_405 : Index := 0#32
  ![0, 0, v556.toNat, v557.toNat, 0]
def k0_off10 (k0_t1 : Fin k0_t1_loop.trips) (k0_t2 : Fin k0_t2_loop.trips) (c0_i32_402 : BitVec 32) : Fin 5 → Nat :=
  let c1_406 : Index := 1#32
  let c0_407 : Index := 0#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v564 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let v555 : BitVec 32 := Scalar.addi v554 c0_i32_402
  let v565 : Index := Scalar.indexCast v555
  let c0_408 : Index := 0#32
  ![1, 0, v564.toNat, v565.toNat, 0]
def k0_off11 (k0_t1 : Fin k0_t1_loop.trips) (k0_t2 : Fin k0_t2_loop.trips) (c0_i32_402 : BitVec 32) : Fin 5 → Nat :=
  let c2_410 : Index := 2#32
  let c0_411 : Index := 0#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v572 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let v555 : BitVec 32 := Scalar.addi v554 c0_i32_402
  let v573 : Index := Scalar.indexCast v555
  let c0_412 : Index := 0#32
  ![2, 0, v572.toNat, v573.toNat, 0]
def k0_mult2 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let c0_i32_402 : BitVec 32 := 0#32
  let v555 : BitVec 32 := Scalar.addi v554 c0_i32_402
  let c32_i32 : BitVec 32 := 32#32
  let v586 : BitVec 32 := Scalar.muli v555 c32_i32
  let c0_i32_414 : BitVec 32 := 0#32
  let v587 : BitVec 32 := Scalar.addi v586 c0_i32_414
  v587
def k0_off12 (k0_t1 : Fin k0_t1_loop.trips) (k0_t2 : Fin k0_t2_loop.trips) (c0_i32_402 : BitVec 32) (c0_i32_414 : BitVec 32) : Fin 2 → Nat :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let v555 : BitVec 32 := Scalar.addi v554 c0_i32_402
  let c32_i32 : BitVec 32 := 32#32
  let v586 : BitVec 32 := Scalar.muli v555 c32_i32
  let v587 : BitVec 32 := Scalar.addi v586 c0_i32_414
  let v588 : BitVec 32 := v587
  let v592 : Index := Scalar.indexCast v588
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let c128_i32 : BitVec 32 := 128#32
  let v509 : BitVec 32 := Scalar.muli v508 c128_i32
  let v510 : BitVec 32 := v509
  let v593 : Index := Scalar.indexCast v510
  ![v592.toNat, v593.toNat]
def k0_off13 (k0_t1 : Fin k0_t1_loop.trips) (k0_t2 : Fin k0_t2_loop.trips) (c0_i32_402 : BitVec 32) : Fin 5 → Nat :=
  let c0_417 : Index := 0#32
  let c1_418 : Index := 1#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v605 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let v555 : BitVec 32 := Scalar.addi v554 c0_i32_402
  let v606 : Index := Scalar.indexCast v555
  let c0_419 : Index := 0#32
  ![0, 1, v605.toNat, v606.toNat, 0]
def k0_off14 (k0_t1 : Fin k0_t1_loop.trips) (k0_t2 : Fin k0_t2_loop.trips) (c0_i32_402 : BitVec 32) : Fin 5 → Nat :=
  let c1_421 : Index := 1#32
  let c1_422 : Index := 1#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v613 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let v555 : BitVec 32 := Scalar.addi v554 c0_i32_402
  let v614 : Index := Scalar.indexCast v555
  let c0_423 : Index := 0#32
  ![1, 1, v613.toNat, v614.toNat, 0]
def k0_off15 (k0_t1 : Fin k0_t1_loop.trips) (k0_t2 : Fin k0_t2_loop.trips) (c0_i32_402 : BitVec 32) : Fin 5 → Nat :=
  let c2_425 : Index := 2#32
  let c1_426 : Index := 1#32
  let c0_i32_378 : BitVec 32 := 0#32
  let c0_i32 : BitVec 32 := 0#32
  let c1_i32_362 : BitVec 32 := 1#32
  let arg11 : BitVec 32 := Scf.iv c0_i32 c1_i32_362 k0_t1
  let c1_i32_377 : BitVec 32 := 1#32
  let v507 : BitVec 32 := Scalar.muli arg11 c1_i32_377
  let v508 : BitVec 32 := Scalar.addi c0_i32_378 v507
  let v621 : Index := Scalar.indexCast v508
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let v555 : BitVec 32 := Scalar.addi v554 c0_i32_402
  let v622 : Index := Scalar.indexCast v555
  let c0_427 : Index := 0#32
  ![2, 1, v621.toNat, v622.toNat, 0]
def k0_mult3 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_401 : BitVec 32 := 4#32
  let v554 : BitVec 32 := Scalar.muli v513 c4_i32_401
  let c0_i32_402 : BitVec 32 := 0#32
  let v555 : BitVec 32 := Scalar.addi v554 c0_i32_402
  let c32_i32_429 : BitVec 32 := 32#32
  let v635 : BitVec 32 := Scalar.muli v555 c32_i32_429
  let c16_i32_430 : BitVec 32 := 16#32
  let v636 : BitVec 32 := Scalar.addi v635 c16_i32_430
  v636
def k0_mult4 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_433 : BitVec 32 := 4#32
  let v654 : BitVec 32 := Scalar.muli v513 c4_i32_433
  let c1_i32_434 : BitVec 32 := 1#32
  let v655 : BitVec 32 := Scalar.addi v654 c1_i32_434
  let c32_i32_447 : BitVec 32 := 32#32
  let v686 : BitVec 32 := Scalar.muli v655 c32_i32_447
  let c0_i32_448 : BitVec 32 := 0#32
  let v687 : BitVec 32 := Scalar.addi v686 c0_i32_448
  v687
def k0_mult5 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_433 : BitVec 32 := 4#32
  let v654 : BitVec 32 := Scalar.muli v513 c4_i32_433
  let c1_i32_434 : BitVec 32 := 1#32
  let v655 : BitVec 32 := Scalar.addi v654 c1_i32_434
  let c32_i32_463 : BitVec 32 := 32#32
  let v735 : BitVec 32 := Scalar.muli v655 c32_i32_463
  let c16_i32_464 : BitVec 32 := 16#32
  let v736 : BitVec 32 := Scalar.addi v735 c16_i32_464
  v736
def k0_mult6 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_467 : BitVec 32 := 4#32
  let v754 : BitVec 32 := Scalar.muli v513 c4_i32_467
  let c2_i32_468 : BitVec 32 := 2#32
  let v755 : BitVec 32 := Scalar.addi v754 c2_i32_468
  let c32_i32_481 : BitVec 32 := 32#32
  let v786 : BitVec 32 := Scalar.muli v755 c32_i32_481
  let c0_i32_482 : BitVec 32 := 0#32
  let v787 : BitVec 32 := Scalar.addi v786 c0_i32_482
  v787
def k0_mult7 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_467 : BitVec 32 := 4#32
  let v754 : BitVec 32 := Scalar.muli v513 c4_i32_467
  let c2_i32_468 : BitVec 32 := 2#32
  let v755 : BitVec 32 := Scalar.addi v754 c2_i32_468
  let c32_i32_497 : BitVec 32 := 32#32
  let v835 : BitVec 32 := Scalar.muli v755 c32_i32_497
  let c16_i32_498 : BitVec 32 := 16#32
  let v836 : BitVec 32 := Scalar.addi v835 c16_i32_498
  v836
def k0_mult8 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_501 : BitVec 32 := 4#32
  let v854 : BitVec 32 := Scalar.muli v513 c4_i32_501
  let c3_i32 : BitVec 32 := 3#32
  let v855 : BitVec 32 := Scalar.addi v854 c3_i32
  let c32_i32_514 : BitVec 32 := 32#32
  let v886 : BitVec 32 := Scalar.muli v855 c32_i32_514
  let c0_i32_515 : BitVec 32 := 0#32
  let v887 : BitVec 32 := Scalar.addi v886 c0_i32_515
  v887
def k0_mult9 (k0_t2 : Fin k0_t2_loop.trips) : BitVec 32 :=
  let c0_i32_384 : BitVec 32 := 0#32
  let c0_i32_379 : BitVec 32 := 0#32
  let c1_i32_381 : BitVec 32 := 1#32
  let arg12 : BitVec 32 := Scf.iv c0_i32_379 c1_i32_381 k0_t2
  let c1_i32_383 : BitVec 32 := 1#32
  let v512 : BitVec 32 := Scalar.muli arg12 c1_i32_383
  let v513 : BitVec 32 := Scalar.addi c0_i32_384 v512
  let c4_i32_501 : BitVec 32 := 4#32
  let v854 : BitVec 32 := Scalar.muli v513 c4_i32_501
  let c3_i32 : BitVec 32 := 3#32
  let v855 : BitVec 32 := Scalar.addi v854 c3_i32
  let c32_i32_530 : BitVec 32 := 32#32
  let v935 : BitVec 32 := Scalar.muli v855 c32_i32_530
  let c16_i32_531 : BitVec 32 := 16#32
  let v936 : BitVec 32 := Scalar.addi v935 c16_i32_531
  v936
def k0_cond3 (i : grid0.Coords) : BitVec 1 :=
  let arg1 : BitVec 32 := BitVec.ofNat 32 (i 1).val
  let c8_i32 : BitVec 32 := 8#32
  let v504 : BitVec 1 := Scalar.cmpi .eq arg1 c8_i32
  let v505 : BitVec 32 := Scalar.extui v504
  let c0_i32_376 : BitVec 32 := 0#32
  let v506 : BitVec 1 := Scalar.cmpi .ne v505 c0_i32_376
  v506

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3x256x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S768x1x18432 : Shape := ⟨3, ![768, 1, 18432]⟩
abbrev S3x2304x7168 : Shape := ⟨3, ![3, 2304, 7168]⟩
abbrev S3x144x7168 : Shape := ⟨3, ![3, 144, 7168]⟩
abbrev S768x1x2304x8 : Shape := ⟨4, ![768, 1, 2304, 8]⟩
abbrev S3x144x16x7168 : Shape := ⟨4, ![3, 144, 16, 7168]⟩
abbrev S_ : Shape := ⟨0, ![]⟩
abbrev S768x1x2304x1 : Shape := ⟨4, ![768, 1, 2304, 1]⟩
abbrev S768x1x2304 : Shape := ⟨3, ![768, 1, 2304]⟩
abbrev S768x1x3x7168 : Shape := ⟨4, ![768, 1, 3, 7168]⟩
abbrev S768x1x7168 : Shape := ⟨3, ![768, 1, 7168]⟩
abbrev S768x7168 : Shape := ⟨2, ![768, 7168]⟩

abbrev nBuf : Space → Nat
  | .hbm => 169
  | .vmem => 0
  | .smem => 0
  | _ => 0

abbrev hbmTy0_0 (i : Nat) : BufTy := match i % 128 with
  | 0 => ⟨S768x1x18432, .bf16⟩
  | 1 => ⟨S3x2304x7168, .i8⟩
  | 2 => ⟨S3x144x7168, .bf16⟩
  | 3 => ⟨S768x1x2304x8, .bf16⟩
  | 4 => ⟨S3x144x16x7168, .bf16⟩
  | 5 => ⟨S3x2304x7168, .bf16⟩
  | 6 => ⟨S3x2304x7168, .i32⟩
  | 7 => ⟨S_, .i32⟩
  | 8 => ⟨S3x2304x7168, .i32⟩
  | 9 => ⟨S3x2304x7168, .i32⟩
  | 10 => ⟨S_, .i32⟩
  | 11 => ⟨S3x2304x7168, .i32⟩
  | 12 => ⟨S3x2304x7168, .i32⟩
  | 13 => ⟨S_, .i32⟩
  | 14 => ⟨S3x2304x7168, .i32⟩
  | 15 => ⟨S3x2304x7168, .i1⟩
  | 16 => ⟨S_, .bf16⟩
  | 17 => ⟨S_, .bf16⟩
  | 18 => ⟨S3x2304x7168, .bf16⟩
  | 19 => ⟨S3x2304x7168, .bf16⟩
  | 20 => ⟨S3x2304x7168, .bf16⟩
  | 21 => ⟨S3x2304x7168, .bf16⟩
  | 22 => ⟨S768x1x2304x1, .bf16⟩
  | 23 => ⟨S768x1x2304, .bf16⟩
  | 24 => ⟨S768x1x3x7168, .f32⟩
  | 25 => ⟨S3x2304x7168, .i32⟩
  | 26 => ⟨S_, .i32⟩
  | 27 => ⟨S3x2304x7168, .i32⟩
  | 28 => ⟨S3x2304x7168, .i32⟩
  | 29 => ⟨S_, .i32⟩
  | 30 => ⟨S3x2304x7168, .i32⟩
  | 31 => ⟨S3x2304x7168, .i32⟩
  | 32 => ⟨S_, .i32⟩
  | 33 => ⟨S3x2304x7168, .i32⟩
  | 34 => ⟨S3x2304x7168, .i1⟩
  | 35 => ⟨S_, .bf16⟩
  | 36 => ⟨S_, .bf16⟩
  | 37 => ⟨S3x2304x7168, .bf16⟩
  | 38 => ⟨S3x2304x7168, .bf16⟩
  | 39 => ⟨S3x2304x7168, .bf16⟩
  | 40 => ⟨S3x2304x7168, .bf16⟩
  | 41 => ⟨S768x1x2304x1, .bf16⟩
  | 42 => ⟨S768x1x2304, .bf16⟩
  | 43 => ⟨S768x1x3x7168, .f32⟩
  | 44 => ⟨S768x1x3x7168, .f32⟩
  | 45 => ⟨S3x2304x7168, .i32⟩
  | 46 => ⟨S_, .i32⟩
  | 47 => ⟨S3x2304x7168, .i32⟩
  | 48 => ⟨S3x2304x7168, .i32⟩
  | 49 => ⟨S_, .i32⟩
  | 50 => ⟨S3x2304x7168, .i32⟩
  | 51 => ⟨S3x2304x7168, .i32⟩
  | 52 => ⟨S_, .i32⟩
  | 53 => ⟨S3x2304x7168, .i32⟩
  | 54 => ⟨S3x2304x7168, .i1⟩
  | 55 => ⟨S_, .bf16⟩
  | 56 => ⟨S_, .bf16⟩
  | 57 => ⟨S3x2304x7168, .bf16⟩
  | 58 => ⟨S3x2304x7168, .bf16⟩
  | 59 => ⟨S3x2304x7168, .bf16⟩
  | 60 => ⟨S3x2304x7168, .bf16⟩
  | 61 => ⟨S768x1x2304x1, .bf16⟩
  | 62 => ⟨S768x1x2304, .bf16⟩
  | 63 => ⟨S768x1x3x7168, .f32⟩
  | 64 => ⟨S768x1x3x7168, .f32⟩
  | 65 => ⟨S3x2304x7168, .i32⟩
  | 66 => ⟨S_, .i32⟩
  | 67 => ⟨S3x2304x7168, .i32⟩
  | 68 => ⟨S3x2304x7168, .i32⟩
  | 69 => ⟨S_, .i32⟩
  | 70 => ⟨S3x2304x7168, .i32⟩
  | 71 => ⟨S3x2304x7168, .i32⟩
  | 72 => ⟨S_, .i32⟩
  | 73 => ⟨S3x2304x7168, .i32⟩
  | 74 => ⟨S3x2304x7168, .i1⟩
  | 75 => ⟨S_, .bf16⟩
  | 76 => ⟨S_, .bf16⟩
  | 77 => ⟨S3x2304x7168, .bf16⟩
  | 78 => ⟨S3x2304x7168, .bf16⟩
  | 79 => ⟨S3x2304x7168, .bf16⟩
  | 80 => ⟨S3x2304x7168, .bf16⟩
  | 81 => ⟨S768x1x2304x1, .bf16⟩
  | 82 => ⟨S768x1x2304, .bf16⟩
  | 83 => ⟨S768x1x3x7168, .f32⟩
  | 84 => ⟨S768x1x3x7168, .f32⟩
  | 85 => ⟨S3x2304x7168, .i32⟩
  | 86 => ⟨S_, .i32⟩
  | 87 => ⟨S3x2304x7168, .i32⟩
  | 88 => ⟨S3x2304x7168, .i32⟩
  | 89 => ⟨S_, .i32⟩
  | 90 => ⟨S3x2304x7168, .i32⟩
  | 91 => ⟨S3x2304x7168, .i32⟩
  | 92 => ⟨S_, .i32⟩
  | 93 => ⟨S3x2304x7168, .i32⟩
  | 94 => ⟨S3x2304x7168, .i1⟩
  | 95 => ⟨S_, .bf16⟩
  | 96 => ⟨S_, .bf16⟩
  | 97 => ⟨S3x2304x7168, .bf16⟩
  | 98 => ⟨S3x2304x7168, .bf16⟩
  | 99 => ⟨S3x2304x7168, .bf16⟩
  | 100 => ⟨S3x2304x7168, .bf16⟩
  | 101 => ⟨S768x1x2304x1, .bf16⟩
  | 102 => ⟨S768x1x2304, .bf16⟩
  | 103 => ⟨S768x1x3x7168, .f32⟩
  | 104 => ⟨S768x1x3x7168, .f32⟩
  | 105 => ⟨S3x2304x7168, .i32⟩
  | 106 => ⟨S_, .i32⟩
  | 107 => ⟨S3x2304x7168, .i32⟩
  | 108 => ⟨S3x2304x7168, .i32⟩
  | 109 => ⟨S_, .i32⟩
  | 110 => ⟨S3x2304x7168, .i32⟩
  | 111 => ⟨S3x2304x7168, .i32⟩
  | 112 => ⟨S_, .i32⟩
  | 113 => ⟨S3x2304x7168, .i32⟩
  | 114 => ⟨S3x2304x7168, .i1⟩
  | 115 => ⟨S_, .bf16⟩
  | 116 => ⟨S_, .bf16⟩
  | 117 => ⟨S3x2304x7168, .bf16⟩
  | 118 => ⟨S3x2304x7168, .bf16⟩
  | 119 => ⟨S3x2304x7168, .bf16⟩
  | 120 => ⟨S3x2304x7168, .bf16⟩
  | 121 => ⟨S768x1x2304x1, .bf16⟩
  | 122 => ⟨S768x1x2304, .bf16⟩
  | 123 => ⟨S768x1x3x7168, .f32⟩
  | 124 => ⟨S768x1x3x7168, .f32⟩
  | 125 => ⟨S3x2304x7168, .i32⟩
  | 126 => ⟨S_, .i32⟩
  | 127 => ⟨S3x2304x7168, .i32⟩
  | _ => ⟨S768x1x18432, .bf16⟩

abbrev hbmTy0_1 (i : Nat) : BufTy := match i % 128 with
  | 0 => ⟨S3x2304x7168, .i32⟩
  | 1 => ⟨S_, .i32⟩
  | 2 => ⟨S3x2304x7168, .i32⟩
  | 3 => ⟨S3x2304x7168, .i32⟩
  | 4 => ⟨S_, .i32⟩
  | 5 => ⟨S3x2304x7168, .i32⟩
  | 6 => ⟨S3x2304x7168, .i1⟩
  | 7 => ⟨S_, .bf16⟩
  | 8 => ⟨S_, .bf16⟩
  | 9 => ⟨S3x2304x7168, .bf16⟩
  | 10 => ⟨S3x2304x7168, .bf16⟩
  | 11 => ⟨S3x2304x7168, .bf16⟩
  | 12 => ⟨S3x2304x7168, .bf16⟩
  | 13 => ⟨S768x1x2304x1, .bf16⟩
  | 14 => ⟨S768x1x2304, .bf16⟩
  | 15 => ⟨S768x1x3x7168, .f32⟩
  | 16 => ⟨S768x1x3x7168, .f32⟩
  | 17 => ⟨S3x2304x7168, .i32⟩
  | 18 => ⟨S_, .i32⟩
  | 19 => ⟨S3x2304x7168, .i32⟩
  | 20 => ⟨S3x2304x7168, .i32⟩
  | 21 => ⟨S_, .i32⟩
  | 22 => ⟨S3x2304x7168, .i32⟩
  | 23 => ⟨S3x2304x7168, .i32⟩
  | 24 => ⟨S_, .i32⟩
  | 25 => ⟨S3x2304x7168, .i32⟩
  | 26 => ⟨S3x2304x7168, .i1⟩
  | 27 => ⟨S_, .bf16⟩
  | 28 => ⟨S_, .bf16⟩
  | 29 => ⟨S3x2304x7168, .bf16⟩
  | 30 => ⟨S3x2304x7168, .bf16⟩
  | 31 => ⟨S3x2304x7168, .bf16⟩
  | 32 => ⟨S3x2304x7168, .bf16⟩
  | 33 => ⟨S768x1x2304x1, .bf16⟩
  | 34 => ⟨S768x1x2304, .bf16⟩
  | 35 => ⟨S768x1x3x7168, .f32⟩
  | 36 => ⟨S768x1x3x7168, .f32⟩
  | 37 => ⟨S_, .f32⟩
  | 38 => ⟨S768x1x7168, .f32⟩
  | 39 => ⟨S768x1x7168, .bf16⟩
  | 40 => ⟨S768x7168, .bf16⟩
  | _ => ⟨S768x1x18432, .bf16⟩

abbrev hbmTy (i : Nat) : BufTy := match i / 128 with
  | 0 => hbmTy0_0 i
  | 1 => hbmTy0_1 i
  | _ => ⟨S768x1x18432, .bf16⟩

abbrev bufTy : (tb : Table) → Fin (tcTables nBuf tb) → BufTy
  | .hbm, ⟨i, _⟩ => hbmTy i
  | _, _ => ⟨S768x1x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_cst_12 : Ref sig .tc := ⟨.hbm, 56, rfl⟩
abbrev main_call2_v0 : Ref sig .tc := ⟨.hbm, 57, rfl⟩
abbrev main_call2_v1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_13 : Ref sig .tc := ⟨.hbm, 66, rfl⟩
abbrev main_v42 : Ref sig .tc := ⟨.hbm, 67, rfl⟩
abbrev main_v43 : Ref sig .tc := ⟨.hbm, 68, rfl⟩
abbrev main_c_14 : Ref sig .tc := ⟨.hbm, 69, rfl⟩
abbrev main_v44 : Ref sig .tc := ⟨.hbm, 70, rfl⟩
abbrev main_v45 : Ref sig .tc := ⟨.hbm, 71, rfl⟩
abbrev main_c_15 : Ref sig .tc := ⟨.hbm, 72, rfl⟩
abbrev main_v46 : Ref sig .tc := ⟨.hbm, 73, rfl⟩
abbrev main_v47 : Ref sig .tc := ⟨.hbm, 74, rfl⟩
abbrev main_cst_16 : Ref sig .tc := ⟨.hbm, 75, rfl⟩
abbrev main_cst_17 : Ref sig .tc := ⟨.hbm, 76, rfl⟩
abbrev main_call3_v0 : Ref sig .tc := ⟨.hbm, 77, rfl⟩
abbrev main_call3_v1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_18 : Ref sig .tc := ⟨.hbm, 86, rfl⟩
abbrev main_v55 : Ref sig .tc := ⟨.hbm, 87, rfl⟩
abbrev main_v56 : Ref sig .tc := ⟨.hbm, 88, rfl⟩
abbrev main_c_19 : Ref sig .tc := ⟨.hbm, 89, rfl⟩
abbrev main_v57 : Ref sig .tc := ⟨.hbm, 90, rfl⟩
abbrev main_v58 : Ref sig .tc := ⟨.hbm, 91, rfl⟩
abbrev main_c_20 : Ref sig .tc := ⟨.hbm, 92, rfl⟩
abbrev main_v59 : Ref sig .tc := ⟨.hbm, 93, rfl⟩
abbrev main_v60 : Ref sig .tc := ⟨.hbm, 94, rfl⟩
abbrev main_cst_21 : Ref sig .tc := ⟨.hbm, 95, rfl⟩
abbrev main_cst_22 : Ref sig .tc := ⟨.hbm, 96, rfl⟩
abbrev main_call4_v0 : Ref sig .tc := ⟨.hbm, 97, rfl⟩
abbrev main_call4_v1 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_23 : Ref sig .tc := ⟨.hbm, 106, rfl⟩
abbrev main_v68 : Ref sig .tc := ⟨.hbm, 107, rfl⟩
abbrev main_v69 : Ref sig .tc := ⟨.hbm, 108, rfl⟩
abbrev main_c_24 : Ref sig .tc := ⟨.hbm, 109, rfl⟩
abbrev main_v70 : Ref sig .tc := ⟨.hbm, 110, rfl⟩
abbrev main_v71 : Ref sig .tc := ⟨.hbm, 111, rfl⟩
abbrev main_c_25 : Ref sig .tc := ⟨.hbm, 112, rfl⟩
abbrev main_v72 : Ref sig .tc := ⟨.hbm, 113, rfl⟩
abbrev main_v73 : Ref sig .tc := ⟨.hbm, 114, rfl⟩
abbrev main_cst_26 : Ref sig .tc := ⟨.hbm, 115, rfl⟩
abbrev main_cst_27 : Ref sig .tc := ⟨.hbm, 116, rfl⟩
abbrev main_call5_v0 : Ref sig .tc := ⟨.hbm, 117, rfl⟩
abbrev main_call5_v1 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_28 : Ref sig .tc := ⟨.hbm, 126, rfl⟩
abbrev main_v81 : Ref sig .tc := ⟨.hbm, 127, rfl⟩
abbrev main_v82 : Ref sig .tc := ⟨.hbm, 128, rfl⟩
abbrev main_c_29 : Ref sig .tc := ⟨.hbm, 129, rfl⟩
abbrev main_v83 : Ref sig .tc := ⟨.hbm, 130, rfl⟩
abbrev main_v84 : Ref sig .tc := ⟨.hbm, 131, rfl⟩
abbrev main_c_30 : Ref sig .tc := ⟨.hbm, 132, rfl⟩
abbrev main_v85 : Ref sig .tc := ⟨.hbm, 133, rfl⟩
abbrev main_v86 : Ref sig .tc := ⟨.hbm, 134, rfl⟩
abbrev main_cst_31 : Ref sig .tc := ⟨.hbm, 135, rfl⟩
abbrev main_cst_32 : Ref sig .tc := ⟨.hbm, 136, rfl⟩
abbrev main_call6_v0 : Ref sig .tc := ⟨.hbm, 137, rfl⟩
abbrev main_call6_v1 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_c_33 : Ref sig .tc := ⟨.hbm, 146, rfl⟩
abbrev main_v94 : Ref sig .tc := ⟨.hbm, 147, rfl⟩
abbrev main_v95 : Ref sig .tc := ⟨.hbm, 148, rfl⟩
abbrev main_c_34 : Ref sig .tc := ⟨.hbm, 149, rfl⟩
abbrev main_v96 : Ref sig .tc := ⟨.hbm, 150, rfl⟩
abbrev main_v97 : Ref sig .tc := ⟨.hbm, 151, rfl⟩
abbrev main_c_35 : Ref sig .tc := ⟨.hbm, 152, rfl⟩
abbrev main_v98 : Ref sig .tc := ⟨.hbm, 153, rfl⟩
abbrev main_v99 : Ref sig .tc := ⟨.hbm, 154, rfl⟩
abbrev main_cst_36 : Ref sig .tc := ⟨.hbm, 155, rfl⟩
abbrev main_cst_37 : Ref sig .tc := ⟨.hbm, 156, rfl⟩
abbrev main_call7_v0 : Ref sig .tc := ⟨.hbm, 157, rfl⟩
abbrev main_call7_v1 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_38 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩

abbrev nD : Nat := 1
abbrev τ : Topo := Topo.v7x

variable {F : FTy → Type} [FloatOps F]
-- ==== Proof.P.Tile.lean ====
module
public import proofs.«01_k».proof.Proof.Gen.Kernel.Frame
public import proofs.«01_k».proof.Proof.Gen.Kernel.Loops
public import Idealize.ShloMosaic.Lib.Pointwise
public import Idealize.ShloMosaic.Lib.BitcastPair
public import Idealize.ShloMosaic.Lib.BitcastFour
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! The 16-row tiles one trip of the inner loop stores, read entry by entry. -/

/-- The entry of table `j` that row `y 0` and column `y 1` of the expanded weights look up, rounded to bf16. -/
def tabAt (T : S8x4x16x128.Idx → F .f32) (j : Fin 8) (y : S2048x512.Idx) : F .bf16 :=
  FloatOps.truncf .bf16 bitsLt_bf16_f32 (T (ix4 j ⟨(y 1).val / 128, by have : (y 1).val < 512 := (y 1).isLt; omega⟩
    ⟨(y 0).val / 128, by have : (y 0).val < 2048 := (y 0).isLt; omega⟩ ⟨(y 1).val % 128, by omega⟩))

/-- The bit of plane `b` that row `y 0` and column `y 1` of the expanded weights look up: even rows in the low half
    of the word, odd rows in the high half. -/
def bitAt (B : S3x2x4x64x128.Idx → BitVec 32) (b : Fin 3) (y : S2048x512.Idx) : BitVec 1 :=
  BitVec.ofBool ((B (ix5 b ⟨(y 0).val / 16 % 2, by omega⟩ ⟨(y 1).val / 128, by have : (y 1).val < 512 := (y 1).isLt; omega⟩
    ⟨(y 0).val / 32, by have : (y 0).val < 2048 := (y 0).isLt; omega⟩ ⟨(y 1).val % 128, by omega⟩)).getLsbD
      (16 * ((y 0).val % 2) + (y 0).val % 16))

/-- One of four table entries chosen by two bits, negated where the first bit is clear. -/
def pickSigned (m0 m1 m2 : BitVec 1) (t0 t1 t2 t3 : F .bf16) : F .bf16 :=
  Scalar.select m0 (Scalar.select m1 (Scalar.select m2 t0 t1) (Scalar.select m2 t2 t3))
    (FloatOps.mulf (Scalar.select m1 (Scalar.select m2 t0 t1) (Scalar.select m2 t2 t3)) (Scalar.ofBits .bf16 0xBF80#16))

/-- The expanded weights, high part: tables 0 to 3. -/
def expHi (T : S8x4x16x128.Idx → F .f32) (B : S3x2x4x64x128.Idx → BitVec 32) (y : S2048x512.Idx) : F .bf16 :=
  pickSigned (bitAt B 0 y) (bitAt B 1 y) (bitAt B 2 y) (tabAt T 0 y) (tabAt T 1 y) (tabAt T 2 y) (tabAt T 3 y)

/-- The expanded weights, low part: tables 4 to 7. -/
def expLo (T : S8x4x16x128.Idx → F .f32) (B : S3x2x4x64x128.Idx → BitVec 32) (y : S2048x512.Idx) : F .bf16 :=
  pickSigned (bitAt B 0 y) (bitAt B 1 y) (bitAt B 2 y) (tabAt T 4 y) (tabAt T 5 y) (tabAt T 6 y) (tabAt T 7 y)

/-- The bits of a row of words, one per result row. -/
def maskOf (ld : IVec S1x1x1x8x128 32) : IVec S16x128 1 :=
  cmpi .ne (bitcast S16x128 16 (andi (shapeCast S8x128 ld shapeCasts_S1x1x1x8x128_S8x128) k0_pay196)
    bitcasts_S8x128_w32_S16x128_w16) (broadcast S16x128 0#16)

/-- A spread row of a table, rounded to bf16. -/
def rowOf (ld : Vec F S1x1x16x128 .f32) : FVec F S16x128 .bf16 :=
  truncf .bf16 (shapeCast S16x128 ld shapeCasts_S1x1x16x128_S16x128) bitsLt_bf16_f32

/-- The tile stored from three rows of bits and four rows of tables. -/
def tileOf (m0 m1 m2 : IVec S16x128 1) (t0 t1 t2 t3 : FVec F S16x128 .bf16) : FVec F S16x128 .bf16 :=
  shapeCast S16x128 (select m0 (select m1 (select m2 t0 t1) (select m2 t2 t3))
    (mulf (select m1 (select m2 t0 t1) (select m2 t2 t3)) (broadcast S16x128 (Scalar.ofBits .bf16 0xBF80#16))))
    shapeCasts_S16x128_S16x128

theorem tileOf_apply (m0 m1 m2 : IVec S16x128 1) (t0 t1 t2 t3 : FVec F S16x128 .bf16) (x : S16x128.Idx) :
    tileOf m0 m1 m2 t0 t1 t2 t3 x = pickSigned (m0 x) (m1 x) (m2 x) (t0 x) (t1 x) (t2 x) (t3 x) := by
  unfold tileOf; rw [shapeCast_id]; rfl

theorem rowOf_apply (ld : Vec F S1x1x16x128 .f32) (x : S16x128.Idx) :
    rowOf ld x = FloatOps.truncf .bf16 bitsLt_bf16_f32 (ld (ix4 0 0 (x 0) (x 1))) := by
  idx_vars x
  unfold rowOf truncf
  congr 1
  apply shapeCast_apply
  rw [Shape.rowMajor_val_four, Shape.rowMajor_val_two]
  simp

/-- The word that picks bit `2 s` of the low half and bit `2 s + 1` of the high half. -/
theorem pay196_apply (x : S8x128.Idx) :
    k0_pay196 x = (1#32 <<< (2 * (x 0).val)) ||| (0x20000#32 <<< (2 * (x 0).val)) := by
  idx_vars x
  unfold k0_pay196 ori shli muli broadcast iota
  fin_cases x0 <;> rfl

theorem mask_bit (w : BitVec 32) (r : Fin 16) :
    (w &&& ((1#32 <<< (2 * (r.val / 2))) ||| (0x20000#32 <<< (2 * (r.val / 2))))).extractLsb' (16 * (r.val % 2)) 16
      = if w.getLsbD (16 * (r.val % 2) + r.val) then BitVec.twoPow 16 r.val else 0#16 := by
  rw [BitVec.extractLsb'_and]
  have h : ((1#32 <<< (2 * (r.val / 2))) ||| (0x20000#32 <<< (2 * (r.val / 2)))).extractLsb' (16 * (r.val % 2)) 16
      = BitVec.twoPow 16 r.val := by revert r; decide
  rw [h, BitVec.and_twoPow, BitVec.getLsbD_extractLsb']
  simp [r.isLt]

theorem maskOf_apply (ld : IVec S1x1x1x8x128 32) (x : S16x128.Idx) :
    maskOf ld x = BitVec.ofBool ((ld (ix5 0 0 0 ⟨(x 0).val / 2, by have : (x 0).val < 16 := (x 0).isLt; omega⟩ (x 1))).getLsbD
      (16 * ((x 0).val % 2) + (x 0).val)) := by
  idx_vars x
  unfold maskOf cmpi
  rw [bitcast_32_16]
  have hrow : S16x128.row (ix2 x0 x1) = x0.val := rfl
  have hs : bitcasts_S8x128_w32_S16x128_w16.srcIdx (ix2 x0 x1) (S16x128.row (ix2 x0 x1) / 2)
      (fun a ha => by have := bitcasts_S8x128_w32_S16x128_w16.pos_lt (ix2 x0 x1) 0 (by decide) a ha; omega)
      = (ix2 ⟨x0.val / 2, by omega⟩ x1 : S8x128.Idx) := by
    funext a
    match a with
    | ⟨0, _⟩ => exact Fin.ext (Shape.Bitcasts.srcIdx_row _ _ _ _ _ rfl)
    | ⟨1, _⟩ => exact Fin.ext (Shape.Bitcasts.srcIdx_other _ _ _ _ _ (show ¬ (1 + 2 = 2) by decide))
  rw [hs, hrow]
  unfold andi IntOp.andi
  rw [pay196_apply]
  have hl : shapeCast S8x128 ld shapeCasts_S1x1x1x8x128_S8x128 (ix2 ⟨x0.val / 2, by omega⟩ x1)
      = ld (ix5 0 0 0 ⟨x0.val / 2, by omega⟩ x1) := by
    apply shapeCast_apply
    rw [Shape.rowMajor_val_five, Shape.rowMajor_val_two]
    simp
  rw [hl]
  simp only [ix2_0]
  rw [mask_bit]
  unfold broadcast IntOp.cmpi
  generalize (ld (ix5 0 0 0 ⟨x0.val / 2, by omega⟩ x1)).getLsbD (16 * (x0.val % 2) + x0.val) = b
  clear hrow hs hl
  revert b x0; decide

/-! The tile of one trip, word `4 g + d`, half `h`, of column block `c`. -/

/-- A row of table `j` spread over sixteen rows. -/
def tabLd (T : S8x4x16x128.Idx → F .f32) (j : Fin 8) (c : Fin 4) (g : Fin 16) : Vec F S1x1x16x128 .f32 :=
  fun x => T (ix4 j c g (x 3))

/-- A row of the words of plane `b`, half `h`, spread over eight rows. -/
def bitLd (B : S3x2x4x64x128.Idx → BitVec 32) (b : Fin 3) (h : Fin 2) (c : Fin 4) (q : Fin 64) : IVec S1x1x1x8x128 32 :=
  fun x => B (ix5 b h c q (x 4))

theorem rowOf_tabLd (T : S8x4x16x128.Idx → F .f32) (j : Fin 8) (c : Fin 4) (g : Fin 16) (d : Fin 4) (h : Fin 2)
    (x : S16x128.Idx) (y : S2048x512.Idx) (h0 : (y 0).val = 128 * g.val + 32 * d.val + 16 * h.val + (x 0).val)
    (h1 : (y 1).val = 128 * c.val + (x 1).val) : rowOf (tabLd T j c g) x = tabAt T j y := by
  have hx0 : (x 0).val < 16 := (x 0).isLt
  have hx1 : (x 1).val < 128 := (x 1).isLt
  rw [rowOf_apply]
  unfold tabAt
  congr 1
  show T (ix4 j c g (x 1)) = _
  have e1 : c = (⟨(y 1).val / 128, by omega⟩ : Fin 4) := Fin.ext (show _ = (y 1).val / 128 by omega)
  have e2 : g = (⟨(y 0).val / 128, by omega⟩ : Fin 16) := Fin.ext (show _ = (y 0).val / 128 by omega)
  have e3 : x 1 = (⟨(y 1).val % 128, by omega⟩ : Fin 128) := Fin.ext (show _ = (y 1).val % 128 by omega)
  rw [e3, ← e1, ← e2]

theorem maskOf_bitLd (B : S3x2x4x64x128.Idx → BitVec 32) (b : Fin 3) (c : Fin 4) (g : Fin 16) (d : Fin 4) (h : Fin 2)
    (x : S16x128.Idx) (y : S2048x512.Idx) (h0 : (y 0).val = 128 * g.val + 32 * d.val + 16 * h.val + (x 0).val)
    (h1 : (y 1).val = 128 * c.val + (x 1).val) :
    maskOf (bitLd B b h c ⟨4 * g.val + d.val, by omega⟩) x = bitAt B b y := by
  have hx0 : (x 0).val < 16 := (x 0).isLt
  have hx1 : (x 1).val < 128 := (x 1).isLt
  rw [maskOf_apply]
  unfold bitAt
  show BitVec.ofBool ((B (ix5 b h c ⟨4 * g.val + d.val, by omega⟩ (x 1))).getLsbD _) = _
  have e1 : c = (⟨(y 1).val / 128, by omega⟩ : Fin 4) := Fin.ext (show _ = (y 1).val / 128 by omega)
  have e2 : (⟨4 * g.val + d.val, by omega⟩ : Fin 64) = ⟨(y 0).val / 32, by omega⟩ :=
    Fin.ext (show 4 * g.val + d.val = (y 0).val / 32 by omega)
  have e3 : x 1 = (⟨(y 1).val % 128, by omega⟩ : Fin 128) := Fin.ext (show _ = (y 1).val % 128 by omega)
  have e4 : h = (⟨(y 0).val / 16 % 2, by omega⟩ : Fin 2) := Fin.ext (show _ = (y 0).val / 16 % 2 by omega)
  have e5 : 16 * ((x 0).val % 2) + (x 0).val = 16 * ((y 0).val % 2) + (y 0).val % 16 := by omega
  rw [e5, e3, ← e1, e2, ← e4]

/-! ## The pieces of one trip -/

/-- One 16-row piece of trip `(c, g)`: word `4 g + d`, half `h`, from three rows of words and four rows of tables. -/
def rawPiece (c : Fin k0_t1_loop.trips) (g : Fin k0_t2_loop.trips) (d : Fin 4) (h : Fin 2)
    (l0 l1 l2 : IVec S1x1x1x8x128 32) (r0 r1 r2 r3 : Vec F S1x1x16x128 .f32) : View.Piece (Elt F) S2048x512 .bf16 :=
  ⟨Rect.unit (s := S2048x512) (k0_off12 c g (BitVec.ofNat 32 d.val) (BitVec.ofNat 32 (16 * h.val))) S16x128.size
      (k0_off12_inb c g d h),
    tileOf (maskOf l0) (maskOf l1) (maskOf l2) (rowOf r0) (rowOf r1) (rowOf r2) (rowOf r3)⟩

/-- The word index `4 g + d`. -/
abbrev wordIx (g : Fin k0_t2_loop.trips) (d : Fin 4) : Fin 64 :=
  ⟨4 * g.val + d.val, by have : g.val < 16 := g.isLt; omega⟩

/-- The same piece from whole tables `j0` to `j3` and the whole array of words. -/
def pieceAt (T : S8x4x16x128.Idx → F .f32) (B : S3x2x4x64x128.Idx → BitVec 32) (j0 j1 j2 j3 : Fin 8)
    (c : Fin k0_t1_loop.trips) (g : Fin k0_t2_loop.trips) (d : Fin 4) (h : Fin 2) : View.Piece (Elt F) S2048x512 .bf16 :=
  rawPiece c g d h (bitLd B 0 h c (wordIx g d)) (bitLd B 1 h c (wordIx g d)) (bitLd B 2 h c (wordIx g d))
    (tabLd T j0 c g) (tabLd T j1 c g) (tabLd T j2 c g) (tabLd T j3 c g)

theorem emb_unit_val {s : Shape} (off size : Fin s.rank → ℕ) (inb) (x : (Rect.unit off size inb).shape.Idx) (a : Fin s.rank) :
    ((Rect.unit off size inb).emb x a : ℕ) = off a + x a := by
  rw [Rect.emb_apply]; show off a + 1 * (x a : ℕ) = _; omega

/-- Where entry `x` of a piece lands. -/
theorem pieceAt_emb (T : S8x4x16x128.Idx → F .f32) (B : S3x2x4x64x128.Idx → BitVec 32) (j0 j1 j2 j3 : Fin 8)
    (c : Fin k0_t1_loop.trips) (g : Fin k0_t2_loop.trips) (d : Fin 4) (h : Fin 2) (x : S16x128.Idx) :
    (((pieceAt T B j0 j1 j2 j3 c g d h).1.emb x 0 : Fin _).val = 128 * g.val + 32 * d.val + 16 * h.val + (x 0).val)
      ∧ (((pieceAt T B j0 j1 j2 j3 c g d h).1.emb x 1 : Fin _).val = 128 * c.val + (x 1).val) := by
  have e := k0_off12_eq c g d h
  constructor
  · refine (emb_unit_val (s := S2048x512) (k0_off12 c g (BitVec.ofNat 32 d.val) (BitVec.ofNat 32 (16 * h.val))) S16x128.size (k0_off12_inb c g d h) x 0).trans ?_
    exact congrArg (· + (x 0).val) (congrFun e 0)
  · refine (emb_unit_val (s := S2048x512) (k0_off12 c g (BitVec.ofNat 32 d.val) (BitVec.ofNat 32 (16 * h.val))) S16x128.size (k0_off12_inb c g d h) x 1).trans ?_
    exact congrArg (· + (x 1).val) (congrFun e 1)

/-- A piece's entries are the expanded weights where they land. -/
theorem pieceAt_val (T : S8x4x16x128.Idx → F .f32) (B : S3x2x4x64x128.Idx → BitVec 32) (j0 j1 j2 j3 : Fin 8)
    (c : Fin k0_t1_loop.trips) (g : Fin k0_t2_loop.trips) (d : Fin 4) (h : Fin 2) (x : S16x128.Idx) :
    (pieceAt T B j0 j1 j2 j3 c g d h).2 x
      = (fun y => pickSigned (bitAt B 0 y) (bitAt B 1 y) (bitAt B 2 y) (tabAt T j0 y) (tabAt T j1 y) (tabAt T j2 y)
          (tabAt T j3 y)) ((pieceAt T B j0 j1 j2 j3 c g d h).1.emb x) := by
  obtain ⟨h0, h1⟩ := pieceAt_emb T B j0 j1 j2 j3 c g d h x
  refine (tileOf_apply _ _ _ _ _ _ _ x).trans ?_
  have hm := fun b => maskOf_bitLd B b c g d h x _ h0 h1
  have ht := fun j => rowOf_tabLd T j c g d h x _ h0 h1
  show pickSigned (maskOf (bitLd B 0 h c (wordIx g d)) x) (maskOf (bitLd B 1 h c (wordIx g d)) x)
    (maskOf (bitLd B 2 h c (wordIx g d)) x) (rowOf (tabLd T j0 c g) x) (rowOf (tabLd T j1 c g) x)
    (rowOf (tabLd T j2 c g) x) (rowOf (tabLd T j3 c g) x) = _
  rw [hm 0, hm 1, hm 2, ht j0, ht j1, ht j2, ht j3]

/-- Every entry of group `g`, column block `c`, is in a piece of trip `(c, g)`. -/
theorem pieceAt_cover (T : S8x4x16x128.Idx → F .f32) (B : S3x2x4x64x128.Idx → BitVec 32) (j0 j1 j2 j3 : Fin 8)
    (c : Fin k0_t1_loop.trips) (g : Fin k0_t2_loop.trips) (y : S2048x512.Idx) (hg : (y 0).val / 128 = g.val)
    (hc : (y 1).val / 128 = c.val) :
    y ∈ (pieceAt T B j0 j1 j2 j3 c g ⟨(y 0).val / 32 % 4, by omega⟩ ⟨(y 0).val / 16 % 2, by omega⟩).1.set := by
  refine (Rect.mem_set_unit (inb := k0_off12_inb c g ⟨(y 0).val / 32 % 4, by omega⟩ ⟨(y 0).val / 16 % 2, by omega⟩)).mpr ?_
  rw [k0_off12_eq c g ⟨(y 0).val / 32 % 4, by omega⟩ ⟨(y 0).val / 16 % 2, by omega⟩]
  intro a
  match a with
  | ⟨0, _⟩ =>
    show 128 * g.val + 32 * ((y 0).val / 32 % 4) + 16 * ((y 0).val / 16 % 2) ≤ (y 0).val
      ∧ (y 0).val < 128 * g.val + 32 * ((y 0).val / 32 % 4) + 16 * ((y 0).val / 16 % 2) + 16
    omega
  | ⟨1, _⟩ =>
    show 128 * c.val ≤ (y 1).val ∧ (y 1).val < 128 * c.val + 128
    omega

/-! ## The loads of one trip -/

theorem readAt_tab (arg7 : Memref sig .tc .vmem S8x4x16x128 .f32) (X7 : BufTy.Contents (Elt F) arg7.view.ty)
    (j : Fin 8) (c : Fin 4) (g : Fin 16) (off : Fin 4 → ℕ)
    (inb : ∀ a, S1x1x16x128.size a = 0 ∨ off a + (![1, 1, 0, 1] : Fin 4 → ℕ) a * (S1x1x16x128.size a - 1) < S8x4x16x128.size a)
    (e : off = ![j.val, c.val, g.val, 0]) :
    arg7.view.readAt (Elt F) (⟨off, S1x1x16x128.size, ![1, 1, 0, 1], inb⟩ : LoadRect S8x4x16x128) X7
      = tabLd (arg7.view.read (Elt F) X7) j c g := by
  subst e
  funext x
  rw [View.readAt_apply]
  unfold tabLd
  congr 1
  have h0 : (x 0).val < 1 := (x 0).isLt
  have h1 : (x 1).val < 1 := (x 1).isLt
  funext a
  match a with
  | ⟨0, _⟩ => exact Fin.ext (show j.val + 1 * (x 0).val = j.val by omega)
  | ⟨1, _⟩ => exact Fin.ext (show c.val + 1 * (x 1).val = c.val by omega)
  | ⟨2, _⟩ => exact Fin.ext (show g.val + 0 * (x 2).val = g.val by omega)
  | ⟨3, _⟩ => exact Fin.ext (show 0 + 1 * (x 3).val = (x 3).val by omega)

theorem readAt_bit (arg8 : Memref sig .tc .vmem S3x2x4x64x128 .i32) (X8 : BufTy.Contents (Elt F) arg8.view.ty)
    (b : Fin 3) (h : Fin 2) (c : Fin 4) (q : Fin 64) (off : Fin 5 → ℕ)
    (inb : ∀ a, S1x1x1x8x128.size a = 0 ∨ off a + (![1, 1, 1, 0, 1] : Fin 5 → ℕ) a * (S1x1x1x8x128.size a - 1) < S3x2x4x64x128.size a)
    (e : off = ![b.val, h.val, c.val, q.val, 0]) :
    arg8.view.readAt (Elt F) (⟨off, S1x1x1x8x128.size, ![1, 1, 1, 0, 1], inb⟩ : LoadRect S3x2x4x64x128) X8
      = bitLd (arg8.view.read (Elt F) X8) b h c q := by
  subst e
  funext x
  rw [View.readAt_apply]
  unfold bitLd
  congr 1
  have h0 : (x 0).val < 1 := (x 0).isLt
  have h1 : (x 1).val < 1 := (x 1).isLt
  have h2 : (x 2).val < 1 := (x 2).isLt
  funext a
  match a with
  | ⟨0, _⟩ => exact Fin.ext (show b.val + 1 * (x 0).val = b.val by omega)
  | ⟨1, _⟩ => exact Fin.ext (show h.val + 1 * (x 1).val = h.val by omega)
  | ⟨2, _⟩ => exact Fin.ext (show c.val + 1 * (x 2).val = c.val by omega)
  | ⟨3, _⟩ => exact Fin.ext (show q.val + 0 * (x 3).val = q.val by omega)
  | ⟨4, _⟩ => exact Fin.ext (show 0 + 1 * (x 4).val = (x 4).val by omega)

/-! ## The pieces the run of a trip finds -/

/-- The eight pieces of trip `(c, g)`, last first. -/
def tripPieces (T : S8x4x16x128.Idx → F .f32) (B : S3x2x4x64x128.Idx → BitVec 32) (j0 j1 j2 j3 : Fin 8)
    (c : Fin k0_t1_loop.trips) (g : Fin k0_t2_loop.trips) : List (View.Piece (Elt F) S2048x512 .bf16) :=
  [pieceAt T B j0 j1 j2 j3 c g 3 1, pieceAt T B j0 j1 j2 j3 c g 3 0, pieceAt T B j0 j1 j2 j3 c g 2 1,
   pieceAt T B j0 j1 j2 j3 c g 2 0, pieceAt T B j0 j1 j2 j3 c g 1 1, pieceAt T B j0 j1 j2 j3 c g 1 0,
   pieceAt T B j0 j1 j2 j3 c g 0 1, pieceAt T B j0 j1 j2 j3 c g 0 0]

section Found

variable (arg7 : Memref sig .tc .vmem S8x4x16x128 .f32) (arg8 : Memref sig .tc .vmem S3x2x4x64x128 .i32)
  (X7 : BufTy.Contents (Elt F) arg7.view.ty) (X8 : BufTy.Contents (Elt F) arg8.view.ty)
  (c : Fin k0_t1_loop.trips) (g : Fin k0_t2_loop.trips)

/-- The even half's piece as the trip's loads spell it. -/
def evenPiece (d : Fin 4) (r0 r1 r2 r3 : Vec F S1x1x16x128 .f32) : View.Piece (Elt F) S2048x512 .bf16 :=
  rawPiece c g d 0
    (arg8.view.readAt (Elt F) (⟨k0_off9 c g (BitVec.ofNat 32 d.val), S1x1x1x8x128.size, ![1, 1, 1, 0, 1], k0_off9_inb c g d⟩ : LoadRect S3x2x4x64x128) X8)
    (arg8.view.readAt (Elt F) (⟨k0_off10 c g (BitVec.ofNat 32 d.val), S1x1x1x8x128.size, ![1, 1, 1, 0, 1], k0_off10_inb c g d⟩ : LoadRect S3x2x4x64x128) X8)
    (arg8.view.readAt (Elt F) (⟨k0_off11 c g (BitVec.ofNat 32 d.val), S1x1x1x8x128.size, ![1, 1, 1, 0, 1], k0_off11_inb c g d⟩ : LoadRect S3x2x4x64x128) X8)
    r0 r1 r2 r3

/-- The odd half's piece as the trip's loads spell it. -/
def oddPiece (d : Fin 4) (r0 r1 r2 r3 : Vec F S1x1x16x128 .f32) : View.Piece (Elt F) S2048x512 .bf16 :=
  rawPiece c g d 1
    (arg8.view.readAt (Elt F) (⟨k0_off13 c g (BitVec.ofNat 32 d.val), S1x1x1x8x128.size, ![1, 1, 1, 0, 1], k0_off13_inb c g d⟩ : LoadRect S3x2x4x64x128) X8)
    (arg8.view.readAt (Elt F) (⟨k0_off14 c g (BitVec.ofNat 32 d.val), S1x1x1x8x128.size, ![1, 1, 1, 0, 1], k0_off14_inb c g d⟩ : LoadRect S3x2x4x64x128) X8)
    (arg8.view.readAt (Elt F) (⟨k0_off15 c g (BitVec.ofNat 32 d.val), S1x1x1x8x128.size, ![1, 1, 1, 0, 1], k0_off15_inb c g d⟩ : LoadRect S3x2x4x64x128) X8)
    r0 r1 r2 r3

theorem evenPiece_eq (d : Fin 4) (j0 j1 j2 j3 : Fin 8) (T : S8x4x16x128.Idx → F .f32) :
    evenPiece arg8 X8 c g d (tabLd T j0 c g) (tabLd T j1 c g) (tabLd T j2 c g) (tabLd T j3 c g)
      = pieceAt T (arg8.view.read (Elt F) X8) j0 j1 j2 j3 c g d 0 := by
  unfold evenPiece pieceAt
  rw [readAt_bit arg8 X8 0 0 c (wordIx g d) _ _ (k0_off9_eq c g d), readAt_bit arg8 X8 1 0 c (wordIx g d) _ _ (k0_off10_eq c g d),
    readAt_bit arg8 X8 2 0 c (wordIx g d) _ _ (k0_off11_eq c g d)]

theorem oddPiece_eq (d : Fin 4) (j0 j1 j2 j3 : Fin 8) (T : S8x4x16x128.Idx → F .f32) :
    oddPiece arg8 X8 c g d (tabLd T j0 c g) (tabLd T j1 c g) (tabLd T j2 c g) (tabLd T j3 c g)
      = pieceAt T (arg8.view.read (Elt F) X8) j0 j1 j2 j3 c g d 1 := by
  unfold oddPiece pieceAt
  rw [readAt_bit arg8 X8 0 1 c (wordIx g d) _ _ (k0_off13_eq c g d), readAt_bit arg8 X8 1 1 c (wordIx g d) _ _ (k0_off14_eq c g d),
    readAt_bit arg8 X8 2 1 c (wordIx g d) _ _ (k0_off15_eq c g d)]

/-- The eight pieces as the trip's loads spell them. -/
def foundPieces (r0 r1 r2 r3 : Vec F S1x1x16x128 .f32) : List (View.Piece (Elt F) S2048x512 .bf16) :=
  [oddPiece arg8 X8 c g 3 r0 r1 r2 r3, evenPiece arg8 X8 c g 3 r0 r1 r2 r3, oddPiece arg8 X8 c g 2 r0 r1 r2 r3,
   evenPiece arg8 X8 c g 2 r0 r1 r2 r3, oddPiece arg8 X8 c g 1 r0 r1 r2 r3, evenPiece arg8 X8 c g 1 r0 r1 r2 r3,
   oddPiece arg8 X8 c g 0 r0 r1 r2 r3, evenPiece arg8 X8 c g 0 r0 r1 r2 r3]

theorem foundPieces_eq (j0 j1 j2 j3 : Fin 8) (T : S8x4x16x128.Idx → F .f32) :
    foundPieces arg8 X8 c g (tabLd T j0 c g) (tabLd T j1 c g) (tabLd T j2 c g) (tabLd T j3 c g)
      = tripPieces T (arg8.view.read (Elt F) X8) j0 j1 j2 j3 c g := by
  unfold foundPieces tripPieces
  rw [oddPiece_eq, oddPiece_eq, oddPiece_eq, oddPiece_eq, evenPiece_eq, evenPiece_eq, evenPiece_eq, evenPiece_eq]

end Found
-- ==== Proof.P.Loops.lean ====
module
public import proofs.«01_k».proof.Proof.P.Tile
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! ## The two loops that expand the words -/

section Inner

variable (𝒱 : Variants) (c : Dev nD) (bd : Option 𝒱.V) (i : grid0.Coords)
  (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole)
  (arg1 : BitVec 32) (v431 : IVec S64x128 32) (v467 : IVec S64x128 32) (v473 : IVec S1x1x1x64x128 32) (k0_t1 : Fin k0_t1_loop.trips) (v508 : BitVec 32) (v510 : BitVec 32)
  (X7 : BufTy.Contents (Elt F) arg7.view.ty) (X8 : BufTy.Contents (Elt F) arg8.view.ty)

/-- The pieces one trip writes into the high part. -/
theorem trip_hi (k : Fin k0_t2_loop.trips) : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).1
    = tripPieces (arg7.view.read (Elt F) X7) (arg8.view.read (Elt F) X8) 0 1 2 3 k0_t1 k := by
  have h : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).1 = foundPieces arg8 X8 k0_t1 k (arg7.view.readAt (Elt F) (⟨k0_off1 k0_t1 k, S1x1x16x128.size, ![1, 1, 0, 1], k0_off1_inb k0_t1 k⟩ : LoadRect S8x4x16x128) X7) (arg7.view.readAt (Elt F) (⟨k0_off2 k0_t1 k, S1x1x16x128.size, ![1, 1, 0, 1], k0_off2_inb k0_t1 k⟩ : LoadRect S8x4x16x128) X7) (arg7.view.readAt (Elt F) (⟨k0_off3 k0_t1 k, S1x1x16x128.size, ![1, 1, 0, 1], k0_off3_inb k0_t1 k⟩ : LoadRect S8x4x16x128) X7) (arg7.view.readAt (Elt F) (⟨k0_off4 k0_t1 k, S1x1x16x128.size, ![1, 1, 0, 1], k0_off4_inb k0_t1 k⟩ : LoadRect S8x4x16x128) X7) := by
    unfold trip_k0_t2; rfl
  rw [h, readAt_tab arg7 X7 0 k0_t1 k _ _ (k0_off1_eq k0_t1 k), readAt_tab arg7 X7 1 k0_t1 k _ _ (k0_off2_eq k0_t1 k), readAt_tab arg7 X7 2 k0_t1 k _ _ (k0_off3_eq k0_t1 k), readAt_tab arg7 X7 3 k0_t1 k _ _ (k0_off4_eq k0_t1 k), foundPieces_eq]

/-- The pieces one trip writes into the low part. -/
theorem trip_lo (k : Fin k0_t2_loop.trips) : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).2.1
    = tripPieces (arg7.view.read (Elt F) X7) (arg8.view.read (Elt F) X8) 4 5 6 7 k0_t1 k := by
  have h : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).2.1 = foundPieces arg8 X8 k0_t1 k (arg7.view.readAt (Elt F) (⟨k0_off5 k0_t1 k, S1x1x16x128.size, ![1, 1, 0, 1], k0_off5_inb k0_t1 k⟩ : LoadRect S8x4x16x128) X7) (arg7.view.readAt (Elt F) (⟨k0_off6 k0_t1 k, S1x1x16x128.size, ![1, 1, 0, 1], k0_off6_inb k0_t1 k⟩ : LoadRect S8x4x16x128) X7) (arg7.view.readAt (Elt F) (⟨k0_off7 k0_t1 k, S1x1x16x128.size, ![1, 1, 0, 1], k0_off7_inb k0_t1 k⟩ : LoadRect S8x4x16x128) X7) (arg7.view.readAt (Elt F) (⟨k0_off8 k0_t1 k, S1x1x16x128.size, ![1, 1, 0, 1], k0_off8_inb k0_t1 k⟩ : LoadRect S8x4x16x128) X7) := by
    unfold trip_k0_t2; rfl
  rw [h, readAt_tab arg7 X7 4 k0_t1 k _ _ (k0_off5_eq k0_t1 k), readAt_tab arg7 X7 5 k0_t1 k _ _ (k0_off6_eq k0_t1 k), readAt_tab arg7 X7 6 k0_t1 k _ _ (k0_off7_eq k0_t1 k), readAt_tab arg7 X7 7 k0_t1 k _ _ (k0_off8_eq k0_t1 k), foundPieces_eq]

/-- The pieces of the trips before `k` of column block `c`, last first. -/
def blockPieces (T : S8x4x16x128.Idx → F .f32) (B : S3x2x4x64x128.Idx → BitVec 32) (j0 j1 j2 j3 : Fin 8)
    (c : Fin k0_t1_loop.trips) : ℕ → List (View.Piece (Elt F) S2048x512 .bf16)
  | 0 => []
  | k + 1 => (if h : k < k0_t2_loop.trips then tripPieces T B j0 j1 j2 j3 c ⟨k, h⟩ else []) ++ blockPieces T B j0 j1 j2 j3 c k

theorem blockPieces_succ (T : S8x4x16x128.Idx → F .f32) (B : S3x2x4x64x128.Idx → BitVec 32) (j0 j1 j2 j3 : Fin 8)
    (c : Fin k0_t1_loop.trips) (k : ℕ) (h : k < k0_t2_loop.trips) : blockPieces T B j0 j1 j2 j3 c (k + 1)
      = tripPieces T B j0 j1 j2 j3 c ⟨k, h⟩ ++ blockPieces T B j0 j1 j2 j3 c k :=
  congrArg (· ++ blockPieces T B j0 j1 j2 j3 c k) (dif_pos h)

theorem tripL_eq (k : Fin k0_t2_loop.trips) : tripL_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k
    = (tripPieces (arg7.view.read (Elt F) X7) (arg8.view.read (Elt F) X8) 0 1 2 3 k0_t1 k,
       tripPieces (arg7.view.read (Elt F) X7) (arg8.view.read (Elt F) X8) 4 5 6 7 k0_t1 k) := by
  unfold tripL_k0_t2
  exact Prod.ext (trip_hi 𝒱 c bd i arg2 harg2 arg3 harg3 arg4 harg4 arg5 harg5 arg6 harg6 arg7 harg7 arg8 harg8 arg9 harg9 arg10 harg10 arg1 v431 v467 v473 k0_t1 v508 v510 X7 X8 k) (trip_lo 𝒱 c bd i arg2 harg2 arg3 harg3 arg4 harg4 arg5 harg5 arg6 harg6 arg7 harg7 arg8 harg8 arg9 harg9 arg10 harg10 arg1 v431 v467 v473 k0_t1 v508 v510 X7 X8 k)

theorem pb_eq (k : ℕ) (hk : k ≤ k0_t2_loop.trips) :
    pb_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k
      = (blockPieces (arg7.view.read (Elt F) X7) (arg8.view.read (Elt F) X8) 0 1 2 3 k0_t1 k,
         blockPieces (arg7.view.read (Elt F) X7) (arg8.view.read (Elt F) X8) 4 5 6 7 k0_t1 k) := by
  induction k with
  | zero => rfl
  | succ k ih =>
    have hlt : k < k0_t2_loop.trips := hk
    refine (pb_k0_t2_succ 𝒱 c bd i arg2 harg2 arg3 harg3 arg4 harg4 arg5 harg5 arg6 harg6 arg7 harg7 arg8 harg8 arg9 harg9 arg10 harg10 arg1 v431 v467 v473 k0_t1 v508 v510 X7 X8 ⟨k, hlt⟩).trans ?_
    refine Prod.ext ?_ ?_
    · refine Eq.trans ?_ (blockPieces_succ _ _ _ _ _ _ _ k hlt).symm
      exact congrArg₂ (· ++ ·) ((congrArg Prod.fst (tripL_eq 𝒱 c bd i arg2 harg2 arg3 harg3 arg4 harg4 arg5 harg5 arg6 harg6 arg7 harg7 arg8 harg8 arg9 harg9 arg10 harg10 arg1 v431 v467 v473 k0_t1 v508 v510 X7 X8 ⟨k, hlt⟩))) (congrArg Prod.fst (ih (Nat.le_of_lt hlt)))
    · refine Eq.trans ?_ (blockPieces_succ _ _ _ _ _ _ _ k hlt).symm
      exact congrArg₂ (· ++ ·) ((congrArg Prod.snd (tripL_eq 𝒱 c bd i arg2 harg2 arg3 harg3 arg4 harg4 arg5 harg5 arg6 harg6 arg7 harg7 arg8 harg8 arg9 harg9 arg10 harg10 arg1 v431 v467 v473 k0_t1 v508 v510 X7 X8 ⟨k, hlt⟩))) (congrArg Prod.snd (ih (Nat.le_of_lt hlt)))

/-- The pieces of the column blocks before `n`, last first. -/
def allPieces (T : S8x4x16x128.Idx → F .f32) (B : S3x2x4x64x128.Idx → BitVec 32) (j0 j1 j2 j3 : Fin 8) :
    ℕ → List (View.Piece (Elt F) S2048x512 .bf16)
  | 0 => []
  | n + 1 => (if h : n < k0_t1_loop.trips then blockPieces T B j0 j1 j2 j3 ⟨n, h⟩ k0_t2_loop.trips else [])
      ++ allPieces T B j0 j1 j2 j3 n

theorem allPieces_succ (T : S8x4x16x128.Idx → F .f32) (B : S3x2x4x64x128.Idx → BitVec 32) (j0 j1 j2 j3 : Fin 8)
    (n : Fin k0_t1_loop.trips) : allPieces T B j0 j1 j2 j3 (n.val + 1)
      = blockPieces T B j0 j1 j2 j3 n k0_t2_loop.trips ++ allPieces T B j0 j1 j2 j3 n.val :=
  congrArg (· ++ allPieces T B j0 j1 j2 j3 n.val) (dif_pos n.isLt)

/-- Every piece of the two loops holds the expanded weights where it lands. -/
theorem allPieces_val (T : S8x4x16x128.Idx → F .f32) (B : S3x2x4x64x128.Idx → BitVec 32) (j0 j1 j2 j3 : Fin 8) (n : ℕ) :
    ∀ p ∈ allPieces T B j0 j1 j2 j3 n, ∀ x, p.2 x = (fun y => pickSigned (bitAt B 0 y) (bitAt B 1 y) (bitAt B 2 y)
      (tabAt T j0 y) (tabAt T j1 y) (tabAt T j2 y) (tabAt T j3 y)) (p.1.emb x) := by
  have hb : ∀ c k, ∀ p ∈ blockPieces T B j0 j1 j2 j3 c k, ∀ x, p.2 x = (fun y => pickSigned (bitAt B 0 y) (bitAt B 1 y)
      (bitAt B 2 y) (tabAt T j0 y) (tabAt T j1 y) (tabAt T j2 y) (tabAt T j3 y)) (p.1.emb x) := by
    intro c k
    induction k with
    | zero => intro p hp; exact absurd hp List.not_mem_nil
    | succ k ih =>
      intro p hp
      rcases List.mem_append.mp hp with hp | hp
      · split at hp
        · unfold tripPieces at hp
          simp only [List.mem_cons, List.not_mem_nil, or_false] at hp
          rcases hp with rfl | rfl | rfl | rfl | rfl | rfl | rfl | rfl <;> intro x <;> exact pieceAt_val T B j0 j1 j2 j3 _ _ _ _ x
        · exact absurd hp List.not_mem_nil
      · exact ih p hp
  induction n with
  | zero => intro p hp; exact absurd hp List.not_mem_nil
  | succ n ih =>
    intro p hp
    rcases List.mem_append.mp hp with hp | hp
    · split at hp
      · exact hb _ _ p hp
      · exact absurd hp List.not_mem_nil
    · exact ih p hp

theorem mem_tripPieces (T : S8x4x16x128.Idx → F .f32) (B : S3x2x4x64x128.Idx → BitVec 32) (j0 j1 j2 j3 : Fin 8)
    (c : Fin k0_t1_loop.trips) (g : Fin k0_t2_loop.trips) (d : Fin 4) (h : Fin 2) :
    pieceAt T B j0 j1 j2 j3 c g d h ∈ tripPieces T B j0 j1 j2 j3 c g := by
  unfold tripPieces
  fin_cases d <;> fin_cases h <;> simp

/-- The pieces of the two loops cover the expanded weights. -/
theorem allPieces_cover (T : S8x4x16x128.Idx → F .f32) (B : S3x2x4x64x128.Idx → BitVec 32) (j0 j1 j2 j3 : Fin 8)
    (y : S2048x512.Idx) : ∃ p ∈ allPieces T B j0 j1 j2 j3 4, y ∈ p.1.set := by
  have h0 : (y 0).val < 2048 := (y 0).isLt
  have h1 : (y 1).val < 512 := (y 1).isLt
  have hb : ∀ c : Fin k0_t1_loop.trips, (y 1).val / 128 = c.val → ∀ k, (y 0).val / 128 < k → k ≤ 16 →
      ∃ p ∈ blockPieces T B j0 j1 j2 j3 c k, y ∈ p.1.set := by
    intro c hc k
    induction k with
    | zero => intro h; exact absurd h (Nat.not_lt_zero _)
    | succ k ih =>
      intro hk hle
      by_cases hlt : (y 0).val / 128 < k
      · obtain ⟨p, hp, hy⟩ := ih hlt (by omega)
        exact ⟨p, List.mem_append_right _ hp, hy⟩
      · have hk' : k < k0_t2_loop.trips := show k < 16 by omega
        refine ⟨_, List.mem_append_left _ ?_, pieceAt_cover T B j0 j1 j2 j3 c ⟨k, hk'⟩ y (show _ = k by omega) hc⟩
        rw [dif_pos hk']
        exact mem_tripPieces _ _ _ _ _ _ _ _ _ _
  have ha : ∀ n, (y 1).val / 128 < n → n ≤ 4 → ∃ p ∈ allPieces T B j0 j1 j2 j3 n, y ∈ p.1.set := by
    intro n
    induction n with
    | zero => intro h; exact absurd h (Nat.not_lt_zero _)
    | succ n ih =>
      intro hn hle
      by_cases hlt : (y 1).val / 128 < n
      · obtain ⟨p, hp, hy⟩ := ih hlt (by omega)
        exact ⟨p, List.mem_append_right _ hp, hy⟩
      · have hn' : n < k0_t1_loop.trips := show n < 4 by omega
        obtain ⟨p, hp, hy⟩ := hb ⟨n, hn'⟩ (show _ = n by omega) 16 (by omega) le_rfl
        refine ⟨p, List.mem_append_left _ ?_, hy⟩
        rw [dif_pos hn']
        exact hp
  exact ha 4 (by omega) le_rfl

/-- The outer loop's invariant before column block `n`: both parts hold the pieces of the blocks before it. -/
abbrev inv_outer (X7 : BufTy.Contents (Elt F) arg7.view.ty) (X8 : BufTy.Contents (Elt F) arg8.view.ty)
    (G9 : BufTy.Contents (Elt F) arg9.view.ty) (G10 : BufTy.Contents (Elt F) arg10.view.ty) (n : ℕ) (_u : PUnit) :
    sProp (MT nD τ sig Unit (Elt F) ℕ (UR sig nD τ) ℕ) :=
  iprop((arg7.view.loc (c : Thread nD τ) ↦[arg7.view.set]{fullShare} X7) ∗ (arg8.view.loc (c : Thread nD τ) ↦[arg8.view.set]{fullShare} X8)
    ∗ (∃ f, (arg9.view.loc (c : Thread nD τ) ↦[arg9.view.set]{fullShare} f)
        ∗ ⌜f = arg9.view.writes (Elt F) G9 (allPieces (arg7.view.read (Elt F) X7) (arg8.view.read (Elt F) X8) 0 1 2 3 n)⌝)
    ∗ (∃ f, (arg10.view.loc (c : Thread nD τ) ↦[arg10.view.set]{fullShare} f)
        ∗ ⌜f = arg10.view.writes (Elt F) G10 (allPieces (arg7.view.read (Elt F) X7) (arg8.view.read (Elt F) X8) 4 5 6 7 n)⌝))

set_option warn.classDefReducibility false in
/-- The outer loop, by that invariant: one trip is the inner loop. -/
@[sl_loop] def loopInv_outer (E : Set ℕ) (G9 : BufTy.Contents (Elt F) arg9.view.ty) (G10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg1 v431 v467 v473 where
  inv := inv_outer c arg7 arg8 arg9 arg10 X7 X8 G9 G10
  step n u := by
    unfold inv_outer k0_t1_body
    iintro ⟨HR_arg7, HR_arg8, ⟨%f9, HW_arg9, %h9⟩, ⟨%f10, HW_arg10, %h10⟩⟩
    sl_exec
    sl_step
    have hp := fun v508 v510 => pb_eq 𝒱 c bd i arg2 harg2 arg3 harg3 arg4 harg4 arg5 harg5 arg6 harg6 arg7 harg7 arg8 harg8 arg9 harg9 arg10 harg10 arg1 v431 v467 v473 n v508 v510 X7 X8
      k0_t2_loop.trips le_rfl
    isplitl [HR_arg7]; · iexact HR_arg7
    isplitl [HR_arg8]; · iexact HR_arg8
    isplitl [HW_arg9]
    · iexists _; isplitl [HW_arg9]; · iexact HW_arg9
      ipureintro
      rw [h9, ← View.writes_append, allPieces_succ _ _ _ _ _ _ n]
      exact congrArg (fun L => arg9.view.writes (Elt F) G9 (L ++ _)) (congrArg Prod.fst (hp _ _))
    iexists _; isplitl [HW_arg10]; · iexact HW_arg10
    ipureintro
    rw [h10, ← View.writes_append, allPieces_succ _ _ _ _ _ _ n]
    exact congrArg (fun L => arg10.view.writes (Elt F) G10 (L ++ _)) (congrArg Prod.snd (hp _ _))

end Inner
-- ==== Proof.P.Runs.lean ====
module
public import proofs.«01_k».proof.Proof.P.Loops
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 9) — by arithmetic of the point. -/
theorem hcond0_0 : ∀ t : Fin cfg0.N, cond0_0 (grid0.coords t) ↔ t.val % 9 = 0 :=
  (fun t => by
    have ht : t.val < 126 := Nat.lt_of_lt_of_eq t.isLt N_0
    have e0 : (grid0.coords t 0).val = t.val / 9 % 14 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := (Scalar.cmpi .ne (Scalar.extui (Scalar.cmpi .ne (BitVec.ofNat 32 (i 1).val) 0#32)) 0#32) = 1#1
/-- It holds at the points whose coordinates have 1 ≤ i1 — by arithmetic of the point. -/
theorem hcond0_1 : ∀ t : Fin cfg0.N, cond0_1 (grid0.coords t) ↔ 1 ≤ t.val % 9 :=
  (fun t => by
    have ht : t.val < 126 := Nat.lt_of_lt_of_eq t.isLt N_0
    have e0 : (grid0.coords t 0).val = t.val / 9 % 14 := Pipeline.Grid.coords_val t 0 (by decide) rfl
    have e1 : (grid0.coords t 1).val = t.val / 1 % 9 := Pipeline.Grid.coords_val t 1 (by decide) rfl
    simp only [cond0_1, e0, e1]
    word_cmp
   : ∀ t : Fin grid0.N, cond0_1 (grid0.coords t) ↔ 1 ≤ t.val % 9)

/-- The condition of the body's `scf.if` 2 (`k0_h3`), from the grid coordinates (the skeleton's scalar
    chain substituted). -/
abbrev cond0_2 (i : grid0.Coords) : Prop := k0_cond3 i = 1#1
/-- It holds at the points ≡ 8 (mod 9) — by arithmetic of the point. -/
theorem hcond0_2 : ∀ t : Fin cfg0.N, cond0_2 (grid0.coords t) ↔ t.val % 9 = 8 :=
  (fun t => by
    have ht : t.val < 126 := Nat.lt_of_lt_of_eq t.isLt N_0
    have e0 : (grid0.coords t 0).val = t.val / 9 % 14 := Pipeline.Grid.coords_val t 0 (by decide) rfl
    have e1 : (grid0.coords t 1).val = t.val / 1 % 9 := Pipeline.Grid.coords_val t 1 (by decide) rfl
    simp only [cond0_2, k0_cond3, e0, e1]
    word_cmp
   : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → ¬cond0_2 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → ¬cond0_2 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → cond0_1 (grid0.coords t) → ¬cond0_2 (grid0.coords t) → cfg0.idle 3 (grid0.coords t) = true := by decide +kernel
/-- At the points of case B the pipeline does not write output 3's block back. -/
theorem noFlush0_3_B : ∀ t : Fin cfg0.N, ¬cond0_0 (grid0.coords t) → cond0_1 (grid0.coords t) → ¬cond0_2 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs: a subtype the run finds -/

/-- One staging buffer of output window 3, through which its contents are stated (`View.read_writes_of_cover`: the
    choice does not matter). -/
abbrev VO0_3 : View sig .tc .vmem S768x512 .bf16 := (Memref.whole cc0_stg3_0 : Memref sig .tc .vmem S768x512 .bf16).view
/-- Each window's current staging memref at point `t`, spelled as the pipeline passes it (`bodyAt0`), and its wholeness. -/
abbrev ms0_0 (t : Fin cfg0.N) : Memref sig .tc .vmem S768x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x256x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x16x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S768x512 .f32 := Memref.whole cc0_scratch0
abbrev scM0_1 : Memref sig .tc .vmem S8x4x16x128 .f32 := Memref.whole cc0_scratch1
abbrev scM0_2 : Memref sig .tc .vmem S3x2x4x64x128 .i32 := Memref.whole cc0_scratch2
abbrev scM0_3 : Memref sig .tc .vmem S2048x512 .bf16 := Memref.whole cc0_scratch3
abbrev scM0_4 : Memref sig .tc .vmem S2048x512 .bf16 := Memref.whole cc0_scratch4
/-- The scratch `arg6` the kernel carries between points, as a view: what it holds is stated through it. -/
abbrev VS0_0 : View sig .tc .vmem S768x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen
end
-- ==== Proof.P.RunA.lean ====
module
public import proofs.«01_k».proof.Proof.P.Runs
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

set_option maxHeartbeats 2000000 in
/-- The body run at the first step of a column block: the sum is started. The lists are the pieces its stores leave in the buffers, last first. -/
def kernelRun0_A (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) :
    Σ' (L3 : List (View.Piece (Elt F) S768x512 .bf16)), Σ' (LS0 : List (View.Piece (Elt F) S768x512 .f32)), Σ' (LT3 : List (View.Piece (Elt F) S2048x512 .bf16)), { LT4 : List (View.Piece (Elt F) S2048x512 .bf16) //
      ∀ (xi3 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0_bcq_linear i arg2 harg2 arg3 harg3 arg4 harg4 arg5 harg5 arg6 harg6 arg7 harg7 arg8 harg8 arg9 harg9 arg10 harg10) K } := by
  refine ⟨[], ?_, ?_, ?_, fun xi3 E K => ?run⟩
  case run =>
    simp only [cc0_bcq_linear_eq_skeleton]; unfold cc0_bcq_linear_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen
end
-- ==== Proof.P.RunB.lean ====
module
public import proofs.«01_k».proof.Proof.P.RunA
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

set_option maxHeartbeats 2000000 in
/-- The body run at a middle step: the partial product is added to the sum. The lists are the pieces its stores leave in the buffers, last first. -/
def kernelRun0_B (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) :
    Σ' (L3 : List (View.Piece (Elt F) S768x512 .bf16)), Σ' (LS0 : List (View.Piece (Elt F) S768x512 .f32)), Σ' (LT3 : List (View.Piece (Elt F) S2048x512 .bf16)), { LT4 : List (View.Piece (Elt F) S2048x512 .bf16) //
      ∀ (xi3 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0_bcq_linear i arg2 harg2 arg3 harg3 arg4 harg4 arg5 harg5 arg6 harg6 arg7 harg7 arg8 harg8 arg9 harg9 arg10 harg10) K } := by
  refine ⟨[], ?_, ?_, ?_, fun xi3 E K => ?run⟩
  case run =>
    simp only [cc0_bcq_linear_eq_skeleton]; unfold cc0_bcq_linear_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen
end
-- ==== Proof.P.RunC.lean ====
module
public import proofs.«01_k».proof.Proof.P.RunB
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

set_option maxHeartbeats 2000000 in
/-- The body run at the last step: the partial product is added and the sum is rounded into the result. The lists are the pieces its stores leave in the buffers, last first. -/
def kernelRun0_C (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) :
    Σ' (L3 : List (View.Piece (Elt F) S768x512 .bf16)), Σ' (LS0 : List (View.Piece (Elt F) S768x512 .f32)), Σ' (LT3 : List (View.Piece (Elt F) S2048x512 .bf16)), { LT4 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0_bcq_linear i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_bcq_linear_eq_skeleton]; unfold cc0_bcq_linear_skel
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen
end
-- ==== Proof.P.Frame.lean ====
module
public import proofs.«01_k».proof.Proof.P.RunC
public import Idealize.ShloMosaic.Lib.Claim
@[expose] public section
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) : Vec F S768x512 .bf16 :=
  VO0_3.read (Elt F) (VO0_3.writes (Elt F) VO0_3.junk (kernelRun0_A c i arg2 harg2 arg3 harg3 arg4 harg4 arg5 harg5 arg6 harg6 arg7 harg7 arg8 harg8 arg9 harg9 arg10 harg10 hc0 hc1 hc2 x0 x1 x2).1)

/-- Case A's pieces for scratch `arg6`, which the kernel carries between points, cover it: 1 piece of `S768x512` tiling it (Lib/Ring.lean `Piece.tiledL`). -/
theorem scover0_A_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) (y : S768x512.Idx) :
    ∃ pc ∈ (kernelRun0_A c i arg2 harg2 arg3 harg3 arg4 harg4 arg5 harg5 arg6 harg6 arg7 harg7 arg8 harg8 arg9 harg9 arg10 harg10 hc0 hc1 hc2 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2).2.1 S768x512.size (by sl_kernel_rfl) y

/-- What case A leaves in scratch `arg6`: its pieces read back over junk. -/
def sout0_A_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) : Vec F S768x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 x0 x1 x2).2.1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) : Vec F S768x512 .bf16 :=
  VO0_3.read (Elt F) (VO0_3.writes (Elt F) VO0_3.junk (kernelRun0_B c i arg2 harg2 arg3 harg3 arg4 harg4 arg5 harg5 arg6 harg6 arg7 harg7 arg8 harg8 arg9 harg9 arg10 harg10 hc0 hc1 hc2 x0 x1 x2 xs0).1)

/-- Case B's pieces for scratch `arg6`, which the kernel carries between points, cover it: 1 piece of `S768x512` tiling it (Lib/Ring.lean `Piece.tiledL`). -/
theorem scover0_B_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) (y : S768x512.Idx) :
    ∃ pc ∈ (kernelRun0_B c i arg2 harg2 arg3 harg3 arg4 harg4 arg5 harg5 arg6 harg6 arg7 harg7 arg8 harg8 arg9 harg9 arg10 harg10 hc0 hc1 hc2 x0 x1 x2 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 xs0).2.1 S768x512.size (by sl_kernel_rfl) y

/-- What case B leaves in scratch `arg6`: its pieces read back over junk. -/
def sout0_B_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) : Vec F S768x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 x0 x1 x2 xs0).2.1)

/-- Case C's pieces for output 3 tile its block (1 store of `S768x512`, checked by the kernel's evaluation: Lib/Ring.lean `Piece.tiledL`, linear in the pieces, through a loop's `@[irreducible]` trip theorem too), so they cover it. -/
theorem cover0_C_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) (y : S768x512.Idx) :
    ∃ pc ∈ (kernelRun0_C c i arg2 harg2 arg3 harg3 arg4 harg4 arg5 harg5 arg6 harg6 arg7 harg7 arg8 harg8 arg9 harg9 arg10 harg10 hc0 hc1 hc2 x0 x1 x2 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 xs0).1 S768x512.size (by sl_kernel_rfl) y

/-- What case C leaves in output 3's staging buffer: its pieces read back over junk. -/
def out0_C_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) : Vec F S768x512 .bf16 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 hc2 x0 x1 x2 xs0).1)

/-- Case C's pieces for scratch `arg6`, which the kernel carries between points, cover it: 1 piece of `S768x512` tiling it (Lib/Ring.lean `Piece.tiledL`). -/
theorem scover0_C_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) (y : S768x512.Idx) :
    ∃ pc ∈ (kernelRun0_C c i arg2 harg2 arg3 harg3 arg4 harg4 arg5 harg5 arg6 harg6 arg7 harg7 arg8 harg8 arg9 harg9 arg10 harg10 hc0 hc1 hc2 x0 x1 x2 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 xs0).2.1 S768x512.size (by sl_kernel_rfl) y

/-- What case C leaves in scratch `arg6`: its pieces read back over junk. -/
def sout0_C_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) : Vec F S768x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 hc2 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S768x512 .bf16 × Vec F S768x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩))
  | n + 1, hn =>
    if h0 : (n + 1) % 9 = 0 then
      if h1 : 1 ≤ (n + 1) % 9 then
        False.elim (by have hN : n + 1 < 126 := lt_of_lt_of_eq hn (show cfg0.N = 126 from N_0); omega)
      else
        if h2 : (n + 1) % 9 = 8 then
          False.elim (by have hN : n + 1 < 126 := lt_of_lt_of_eq hn (show cfg0.N = 126 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩))
    else
      if h1 : 1 ≤ (n + 1) % 9 then
        if h2 : (n + 1) % 9 = 8 then
          (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2)
        else
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2)
      else
        False.elim (by have hN : n + 1 < 126 := lt_of_lt_of_eq hn (show cfg0.N = 126 from N_0); omega)

/-- `outsAt0` at a point of case A: that case's contents. -/
theorem outsAt0_A (c : Dev nD) (t : Fin cfg0.N) (h0 : t.val % 9 = 0) (h1 : ¬1 ≤ t.val % 9) (h2 : ¬t.val % 9 = 8) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 9 = 0) (h1 : 1 ≤ t.val % 9) (h2 : ¬t.val % 9 = 8) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 9 = 0) (h1 : 1 ≤ t.val % 9) (h2 : t.val % 9 = 8) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 126 := lt_of_lt_of_eq t.isLt (show cfg0.N = 126 from N_0)
  by_cases h0 : t.val % 9 = 0
  · by_cases h1 : 1 ≤ t.val % 9
    · exfalso; omega
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold sout0_A_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t)).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HS3]; · iexact HS3
          isplitl [HS4]; · iexact HS4
          iintro ⟨H0, H1, H2, H3, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          iexists _; iexact H3
        · rw [PhiS_castSucc m c t, PhiS_pos m c _ _ hz]
          rw [outsAt0_A m c t h0 h1 h2]
          unfold sout0_A_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t)).2.2.2.2 _ Set.univ _)
          isplitl [H0]; · iexact H0
          isplitl [H1]; · iexact H1
          isplitl [H2]; · iexact H2
          isplitl [H3]; · iexact H3
          isplitl [HS0]; · iexists _; iexact HS0
          isplitl [HS1]; · iexact HS1
          isplitl [HS2]; · iexact HS2
          isplitl [HS3]; · iexact HS3
          isplitl [HS4]; · iexact HS4
          iintro ⟨H0, H1, H2, H3, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          iexists _; iexact H3
  · by_cases h1 : 1 ≤ t.val % 9
    · by_cases h2 : t.val % 9 = 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1) ((hcond0_2 t).mpr h2)], after0_3]
        by_cases hz : t.val = 0
        · exfalso; have hN : t.val < 126 := lt_of_lt_of_eq t.isLt (show cfg0.N = 126 from N_0); omega
        · rw [PhiS_castSucc m c t, PhiS_pos m c _ _ hz]
          rw [outsAt0_C m c t h0 h1 h2]
          unfold out0_C_3 sout0_C_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_C c (grid0.coords t) _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          isplitl [HS3]; · iexact HS3
          isplitl [HS4]; · iexact HS4
          iintro ⟨H0, H1, H2, ⟨%e3, H3⟩, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_C_3 c _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        by_cases hz : t.val = 0
        · exfalso; have hN : t.val < 126 := lt_of_lt_of_eq t.isLt (show cfg0.N = 126 from N_0); omega
        · rw [PhiS_castSucc m c t, PhiS_pos m c _ _ hz]
          rw [outsAt0_B m c t h0 h1 h2]
          unfold sout0_B_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) _).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HS3]; · iexact HS3
          isplitl [HS4]; · iexact HS4
          iintro ⟨H0, H1, H2, H3, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          iexists _; iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 126 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim's statement, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen
end
-- ==== Proof.PI.Tile.lean ====
module
public import proofs.«01_k».proof.Proof.Gen.KernelIdeal.Frame
public import proofs.«01_k».proof.Proof.Gen.KernelIdeal.Loops
public import Idealize.ShloMosaic.Lib.Pointwise
public import Idealize.ShloMosaic.Lib.BitcastPair
public import Idealize.ShloMosaic.Lib.BitcastFour
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! The 16-row tiles one trip of the inner loop stores, read entry by entry. -/

/-- The entry of table `j` that row `y 0` and column `y 1` of the expanded weights look up, rounded to bf16. -/
def tabAt (T : S8x4x16x128.Idx → F .f32) (j : Fin 8) (y : S2048x512.Idx) : F .bf16 :=
  FloatOps.truncf .bf16 bitsLt_bf16_f32 (T (ix4 j ⟨(y 1).val / 128, by have : (y 1).val < 512 := (y 1).isLt; omega⟩
    ⟨(y 0).val / 128, by have : (y 0).val < 2048 := (y 0).isLt; omega⟩ ⟨(y 1).val % 128, by omega⟩))

/-- The bit of plane `b` that row `y 0` and column `y 1` of the expanded weights look up: even rows in the low half
    of the word, odd rows in the high half. -/
def bitAt (B : S3x2x4x64x128.Idx → BitVec 32) (b : Fin 3) (y : S2048x512.Idx) : BitVec 1 :=
  BitVec.ofBool ((B (ix5 b ⟨(y 0).val / 16 % 2, by omega⟩ ⟨(y 1).val / 128, by have : (y 1).val < 512 := (y 1).isLt; omega⟩
    ⟨(y 0).val / 32, by have : (y 0).val < 2048 := (y 0).isLt; omega⟩ ⟨(y 1).val % 128, by omega⟩)).getLsbD
      (16 * ((y 0).val % 2) + (y 0).val % 16))

/-- One of four table entries chosen by two bits, negated where the first bit is clear. -/
def pickSigned (m0 m1 m2 : BitVec 1) (t0 t1 t2 t3 : F .bf16) : F .bf16 :=
  Scalar.select m0 (Scalar.select m1 (Scalar.select m2 t0 t1) (Scalar.select m2 t2 t3))
    (FloatOps.mulf (Scalar.select m1 (Scalar.select m2 t0 t1) (Scalar.select m2 t2 t3)) (Scalar.ofBits .bf16 0xBF80#16))

/-- The expanded weights, high part: tables 0 to 3. -/
def expHi (T : S8x4x16x128.Idx → F .f32) (B : S3x2x4x64x128.Idx → BitVec 32) (y : S2048x512.Idx) : F .bf16 :=
  pickSigned (bitAt B 0 y) (bitAt B 1 y) (bitAt B 2 y) (tabAt T 0 y) (tabAt T 1 y) (tabAt T 2 y) (tabAt T 3 y)

/-- The expanded weights, low part: tables 4 to 7. -/
def expLo (T : S8x4x16x128.Idx → F .f32) (B : S3x2x4x64x128.Idx → BitVec 32) (y : S2048x512.Idx) : F .bf16 :=
  pickSigned (bitAt B 0 y) (bitAt B 1 y) (bitAt B 2 y) (tabAt T 4 y) (tabAt T 5 y) (tabAt T 6 y) (tabAt T 7 y)

/-- The bits of a row of words, one per result row. -/
def maskOf (ld : IVec S1x1x1x8x128 32) : IVec S16x128 1 :=
  cmpi .ne (bitcast S16x128 16 (andi (shapeCast S8x128 ld shapeCasts_S1x1x1x8x128_S8x128) k0_pay196)
    bitcasts_S8x128_w32_S16x128_w16) (broadcast S16x128 0#16)

/-- A spread row of a table, rounded to bf16. -/
def rowOf (ld : Vec F S1x1x16x128 .f32) : FVec F S16x128 .bf16 :=
  truncf .bf16 (shapeCast S16x128 ld shapeCasts_S1x1x16x128_S16x128) bitsLt_bf16_f32

/-- The tile stored from three rows of bits and four rows of tables. -/
def tileOf (m0 m1 m2 : IVec S16x128 1) (t0 t1 t2 t3 : FVec F S16x128 .bf16) : FVec F S16x128 .bf16 :=
  shapeCast S16x128 (select m0 (select m1 (select m2 t0 t1) (select m2 t2 t3))
    (mulf (select m1 (select m2 t0 t1) (select m2 t2 t3)) (broadcast S16x128 (Scalar.ofBits .bf16 0xBF80#16))))
    shapeCasts_S16x128_S16x128

theorem tileOf_apply (m0 m1 m2 : IVec S16x128 1) (t0 t1 t2 t3 : FVec F S16x128 .bf16) (x : S16x128.Idx) :
    tileOf m0 m1 m2 t0 t1 t2 t3 x = pickSigned (m0 x) (m1 x) (m2 x) (t0 x) (t1 x) (t2 x) (t3 x) := by
  unfold tileOf; rw [shapeCast_id]; rfl

theorem rowOf_apply (ld : Vec F S1x1x16x128 .f32) (x : S16x128.Idx) :
    rowOf ld x = FloatOps.truncf .bf16 bitsLt_bf16_f32 (ld (ix4 0 0 (x 0) (x 1))) := by
  idx_vars x
  unfold rowOf truncf
  congr 1
  apply shapeCast_apply
  rw [Shape.rowMajor_val_four, Shape.rowMajor_val_two]
  simp

/-- The word that picks bit `2 s` of the low half and bit `2 s + 1` of the high half. -/
theorem pay196_apply (x : S8x128.Idx) :
    k0_pay196 x = (1#32 <<< (2 * (x 0).val)) ||| (0x20000#32 <<< (2 * (x 0).val)) := by
  idx_vars x
  unfold k0_pay196 ori shli muli broadcast iota
  fin_cases x0 <;> rfl

theorem mask_bit (w : BitVec 32) (r : Fin 16) :
    (w &&& ((1#32 <<< (2 * (r.val / 2))) ||| (0x20000#32 <<< (2 * (r.val / 2))))).extractLsb' (16 * (r.val % 2)) 16
      = if w.getLsbD (16 * (r.val % 2) + r.val) then BitVec.twoPow 16 r.val else 0#16 := by
  rw [BitVec.extractLsb'_and]
  have h : ((1#32 <<< (2 * (r.val / 2))) ||| (0x20000#32 <<< (2 * (r.val / 2)))).extractLsb' (16 * (r.val % 2)) 16
      = BitVec.twoPow 16 r.val := by revert r; decide
  rw [h, BitVec.and_twoPow, BitVec.getLsbD_extractLsb']
  simp [r.isLt]

theorem maskOf_apply (ld : IVec S1x1x1x8x128 32) (x : S16x128.Idx) :
    maskOf ld x = BitVec.ofBool ((ld (ix5 0 0 0 ⟨(x 0).val / 2, by have : (x 0).val < 16 := (x 0).isLt; omega⟩ (x 1))).getLsbD
      (16 * ((x 0).val % 2) + (x 0).val)) := by
  idx_vars x
  unfold maskOf cmpi
  rw [bitcast_32_16]
  have hrow : S16x128.row (ix2 x0 x1) = x0.val := rfl
  have hs : bitcasts_S8x128_w32_S16x128_w16.srcIdx (ix2 x0 x1) (S16x128.row (ix2 x0 x1) / 2)
      (fun a ha => by have := bitcasts_S8x128_w32_S16x128_w16.pos_lt (ix2 x0 x1) 0 (by decide) a ha; omega)
      = (ix2 ⟨x0.val / 2, by omega⟩ x1 : S8x128.Idx) := by
    funext a
    match a with
    | ⟨0, _⟩ => exact Fin.ext (Shape.Bitcasts.srcIdx_row _ _ _ _ _ rfl)
    | ⟨1, _⟩ => exact Fin.ext (Shape.Bitcasts.srcIdx_other _ _ _ _ _ (show ¬ (1 + 2 = 2) by decide))
  rw [hs, hrow]
  unfold andi IntOp.andi
  rw [pay196_apply]
  have hl : shapeCast S8x128 ld shapeCasts_S1x1x1x8x128_S8x128 (ix2 ⟨x0.val / 2, by omega⟩ x1)
      = ld (ix5 0 0 0 ⟨x0.val / 2, by omega⟩ x1) := by
    apply shapeCast_apply
    rw [Shape.rowMajor_val_five, Shape.rowMajor_val_two]
    simp
  rw [hl]
  simp only [ix2_0]
  rw [mask_bit]
  unfold broadcast IntOp.cmpi
  generalize (ld (ix5 0 0 0 ⟨x0.val / 2, by omega⟩ x1)).getLsbD (16 * (x0.val % 2) + x0.val) = b
  clear hrow hs hl
  revert b x0; decide

/-! The tile of one trip, word `4 g + d`, half `h`, of column block `c`. -/

/-- A row of table `j` spread over sixteen rows. -/
def tabLd (T : S8x4x16x128.Idx → F .f32) (j : Fin 8) (c : Fin 4) (g : Fin 16) : Vec F S1x1x16x128 .f32 :=
  fun x => T (ix4 j c g (x 3))

/-- A row of the words of plane `b`, half `h`, spread over eight rows. -/
def bitLd (B : S3x2x4x64x128.Idx → BitVec 32) (b : Fin 3) (h : Fin 2) (c : Fin 4) (q : Fin 64) : IVec S1x1x1x8x128 32 :=
  fun x => B (ix5 b h c q (x 4))

theorem rowOf_tabLd (T : S8x4x16x128.Idx → F .f32) (j : Fin 8) (c : Fin 4) (g : Fin 16) (d : Fin 4) (h : Fin 2)
    (x : S16x128.Idx) (y : S2048x512.Idx) (h0 : (y 0).val = 128 * g.val + 32 * d.val + 16 * h.val + (x 0).val)
    (h1 : (y 1).val = 128 * c.val + (x 1).val) : rowOf (tabLd T j c g) x = tabAt T j y := by
  have hx0 : (x 0).val < 16 := (x 0).isLt
  have hx1 : (x 1).val < 128 := (x 1).isLt
  rw [rowOf_apply]
  unfold tabAt
  congr 1
  show T (ix4 j c g (x 1)) = _
  have e1 : c = (⟨(y 1).val / 128, by omega⟩ : Fin 4) := Fin.ext (show _ = (y 1).val / 128 by omega)
  have e2 : g = (⟨(y 0).val / 128, by omega⟩ : Fin 16) := Fin.ext (show _ = (y 0).val / 128 by omega)
  have e3 : x 1 = (⟨(y 1).val % 128, by omega⟩ : Fin 128) := Fin.ext (show _ = (y 1).val % 128 by omega)
  rw [e3, ← e1, ← e2]

theorem maskOf_bitLd (B : S3x2x4x64x128.Idx → BitVec 32) (b : Fin 3) (c : Fin 4) (g : Fin 16) (d : Fin 4) (h : Fin 2)
    (x : S16x128.Idx) (y : S2048x512.Idx) (h0 : (y 0).val = 128 * g.val + 32 * d.val + 16 * h.val + (x 0).val)
    (h1 : (y 1).val = 128 * c.val + (x 1).val) :
    maskOf (bitLd B b h c ⟨4 * g.val + d.val, by omega⟩) x = bitAt B b y := by
  have hx0 : (x 0).val < 16 := (x 0).isLt
  have hx1 : (x 1).val < 128 := (x 1).isLt
  rw [maskOf_apply]
  unfold bitAt
  show BitVec.ofBool ((B (ix5 b h c ⟨4 * g.val + d.val, by omega⟩ (x 1))).getLsbD _) = _
  have e1 : c = (⟨(y 1).val / 128, by omega⟩ : Fin 4) := Fin.ext (show _ = (y 1).val / 128 by omega)
  have e2 : (⟨4 * g.val + d.val, by omega⟩ : Fin 64) = ⟨(y 0).val / 32, by omega⟩ :=
    Fin.ext (show 4 * g.val + d.val = (y 0).val / 32 by omega)
  have e3 : x 1 = (⟨(y 1).val % 128, by omega⟩ : Fin 128) := Fin.ext (show _ = (y 1).val % 128 by omega)
  have e4 : h = (⟨(y 0).val / 16 % 2, by omega⟩ : Fin 2) := Fin.ext (show _ = (y 0).val / 16 % 2 by omega)
  have e5 : 16 * ((x 0).val % 2) + (x 0).val = 16 * ((y 0).val % 2) + (y 0).val % 16 := by omega
  rw [e5, e3, ← e1, e2, ← e4]

/-! ## The pieces of one trip -/

/-- One 16-row piece of trip `(c, g)`: word `4 g + d`, half `h`, from three rows of words and four rows of tables. -/
def rawPiece (c : Fin k0_t1_loop.trips) (g : Fin k0_t2_loop.trips) (d : Fin 4) (h : Fin 2)
    (l0 l1 l2 : IVec S1x1x1x8x128 32) (r0 r1 r2 r3 : Vec F S1x1x16x128 .f32) : View.Piece (Elt F) S2048x512 .bf16 :=
  ⟨Rect.unit (s := S2048x512) (k0_off12 c g (BitVec.ofNat 32 d.val) (BitVec.ofNat 32 (16 * h.val))) S16x128.size
      (k0_off12_inb c g d h),
    tileOf (maskOf l0) (maskOf l1) (maskOf l2) (rowOf r0) (rowOf r1) (rowOf r2) (rowOf r3)⟩

/-- The word index `4 g + d`. -/
abbrev wordIx (g : Fin k0_t2_loop.trips) (d : Fin 4) : Fin 64 :=
  ⟨4 * g.val + d.val, by have : g.val < 16 := g.isLt; omega⟩

/-- The same piece from whole tables `j0` to `j3` and the whole array of words. -/
def pieceAt (T : S8x4x16x128.Idx → F .f32) (B : S3x2x4x64x128.Idx → BitVec 32) (j0 j1 j2 j3 : Fin 8)
    (c : Fin k0_t1_loop.trips) (g : Fin k0_t2_loop.trips) (d : Fin 4) (h : Fin 2) : View.Piece (Elt F) S2048x512 .bf16 :=
  rawPiece c g d h (bitLd B 0 h c (wordIx g d)) (bitLd B 1 h c (wordIx g d)) (bitLd B 2 h c (wordIx g d))
    (tabLd T j0 c g) (tabLd T j1 c g) (tabLd T j2 c g) (tabLd T j3 c g)

theorem emb_unit_val {s : Shape} (off size : Fin s.rank → ℕ) (inb) (x : (Rect.unit off size inb).shape.Idx) (a : Fin s.rank) :
    ((Rect.unit off size inb).emb x a : ℕ) = off a + x a := by
  rw [Rect.emb_apply]; show off a + 1 * (x a : ℕ) = _; omega

/-- Where entry `x` of a piece lands. -/
theorem pieceAt_emb (T : S8x4x16x128.Idx → F .f32) (B : S3x2x4x64x128.Idx → BitVec 32) (j0 j1 j2 j3 : Fin 8)
    (c : Fin k0_t1_loop.trips) (g : Fin k0_t2_loop.trips) (d : Fin 4) (h : Fin 2) (x : S16x128.Idx) :
    (((pieceAt T B j0 j1 j2 j3 c g d h).1.emb x 0 : Fin _).val = 128 * g.val + 32 * d.val + 16 * h.val + (x 0).val)
      ∧ (((pieceAt T B j0 j1 j2 j3 c g d h).1.emb x 1 : Fin _).val = 128 * c.val + (x 1).val) := by
  have e := k0_off12_eq c g d h
  constructor
  · refine (emb_unit_val (s := S2048x512) (k0_off12 c g (BitVec.ofNat 32 d.val) (BitVec.ofNat 32 (16 * h.val))) S16x128.size (k0_off12_inb c g d h) x 0).trans ?_
    exact congrArg (· + (x 0).val) (congrFun e 0)
  · refine (emb_unit_val (s := S2048x512) (k0_off12 c g (BitVec.ofNat 32 d.val) (BitVec.ofNat 32 (16 * h.val))) S16x128.size (k0_off12_inb c g d h) x 1).trans ?_
    exact congrArg (· + (x 1).val) (congrFun e 1)

/-- A piece's entries are the expanded weights where they land. -/
theorem pieceAt_val (T : S8x4x16x128.Idx → F .f32) (B : S3x2x4x64x128.Idx → BitVec 32) (j0 j1 j2 j3 : Fin 8)
    (c : Fin k0_t1_loop.trips) (g : Fin k0_t2_loop.trips) (d : Fin 4) (h : Fin 2) (x : S16x128.Idx) :
    (pieceAt T B j0 j1 j2 j3 c g d h).2 x
      = (fun y => pickSigned (bitAt B 0 y) (bitAt B 1 y) (bitAt B 2 y) (tabAt T j0 y) (tabAt T j1 y) (tabAt T j2 y)
          (tabAt T j3 y)) ((pieceAt T B j0 j1 j2 j3 c g d h).1.emb x) := by
  obtain ⟨h0, h1⟩ := pieceAt_emb T B j0 j1 j2 j3 c g d h x
  refine (tileOf_apply _ _ _ _ _ _ _ x).trans ?_
  have hm := fun b => maskOf_bitLd B b c g d h x _ h0 h1
  have ht := fun j => rowOf_tabLd T j c g d h x _ h0 h1
  show pickSigned (maskOf (bitLd B 0 h c (wordIx g d)) x) (maskOf (bitLd B 1 h c (wordIx g d)) x)
    (maskOf (bitLd B 2 h c (wordIx g d)) x) (rowOf (tabLd T j0 c g) x) (rowOf (tabLd T j1 c g) x)
    (rowOf (tabLd T j2 c g) x) (rowOf (tabLd T j3 c g) x) = _
  rw [hm 0, hm 1, hm 2, ht j0, ht j1, ht j2, ht j3]

/-- Every entry of group `g`, column block `c`, is in a piece of trip `(c, g)`. -/
theorem pieceAt_cover (T : S8x4x16x128.Idx → F .f32) (B : S3x2x4x64x128.Idx → BitVec 32) (j0 j1 j2 j3 : Fin 8)
    (c : Fin k0_t1_loop.trips) (g : Fin k0_t2_loop.trips) (y : S2048x512.Idx) (hg : (y 0).val / 128 = g.val)
    (hc : (y 1).val / 128 = c.val) :
    y ∈ (pieceAt T B j0 j1 j2 j3 c g ⟨(y 0).val / 32 % 4, by omega⟩ ⟨(y 0).val / 16 % 2, by omega⟩).1.set := by
  refine (Rect.mem_set_unit (inb := k0_off12_inb c g ⟨(y 0).val / 32 % 4, by omega⟩ ⟨(y 0).val / 16 % 2, by omega⟩)).mpr ?_
  rw [k0_off12_eq c g ⟨(y 0).val / 32 % 4, by omega⟩ ⟨(y 0).val / 16 % 2, by omega⟩]
  intro a
  match a with
  | ⟨0, _⟩ =>
    show 128 * g.val + 32 * ((y 0).val / 32 % 4) + 16 * ((y 0).val / 16 % 2) ≤ (y 0).val
      ∧ (y 0).val < 128 * g.val + 32 * ((y 0).val / 32 % 4) + 16 * ((y 0).val / 16 % 2) + 16
    omega
  | ⟨1, _⟩ =>
    show 128 * c.val ≤ (y 1).val ∧ (y 1).val < 128 * c.val + 128
    omega

/-! ## The loads of one trip -/

theorem readAt_tab (arg7 : Memref sig .tc .vmem S8x4x16x128 .f32) (X7 : BufTy.Contents (Elt F) arg7.view.ty)
    (j : Fin 8) (c : Fin 4) (g : Fin 16) (off : Fin 4 → ℕ)
    (inb : ∀ a, S1x1x16x128.size a = 0 ∨ off a + (![1, 1, 0, 1] : Fin 4 → ℕ) a * (S1x1x16x128.size a - 1) < S8x4x16x128.size a)
    (e : off = ![j.val, c.val, g.val, 0]) :
    arg7.view.readAt (Elt F) (⟨off, S1x1x16x128.size, ![1, 1, 0, 1], inb⟩ : LoadRect S8x4x16x128) X7
      = tabLd (arg7.view.read (Elt F) X7) j c g := by
  subst e
  funext x
  rw [View.readAt_apply]
  unfold tabLd
  congr 1
  have h0 : (x 0).val < 1 := (x 0).isLt
  have h1 : (x 1).val < 1 := (x 1).isLt
  funext a
  match a with
  | ⟨0, _⟩ => exact Fin.ext (show j.val + 1 * (x 0).val = j.val by omega)
  | ⟨1, _⟩ => exact Fin.ext (show c.val + 1 * (x 1).val = c.val by omega)
  | ⟨2, _⟩ => exact Fin.ext (show g.val + 0 * (x 2).val = g.val by omega)
  | ⟨3, _⟩ => exact Fin.ext (show 0 + 1 * (x 3).val = (x 3).val by omega)

theorem readAt_bit (arg8 : Memref sig .tc .vmem S3x2x4x64x128 .i32) (X8 : BufTy.Contents (Elt F) arg8.view.ty)
    (b : Fin 3) (h : Fin 2) (c : Fin 4) (q : Fin 64) (off : Fin 5 → ℕ)
    (inb : ∀ a, S1x1x1x8x128.size a = 0 ∨ off a + (![1, 1, 1, 0, 1] : Fin 5 → ℕ) a * (S1x1x1x8x128.size a - 1) < S3x2x4x64x128.size a)
    (e : off = ![b.val, h.val, c.val, q.val, 0]) :
    arg8.view.readAt (Elt F) (⟨off, S1x1x1x8x128.size, ![1, 1, 1, 0, 1], inb⟩ : LoadRect S3x2x4x64x128) X8
      = bitLd (arg8.view.read (Elt F) X8) b h c q := by
  subst e
  funext x
  rw [View.readAt_apply]
  unfold bitLd
  congr 1
  have h0 : (x 0).val < 1 := (x 0).isLt
  have h1 : (x 1).val < 1 := (x 1).isLt
  have h2 : (x 2).val < 1 := (x 2).isLt
  funext a
  match a with
  | ⟨0, _⟩ => exact Fin.ext (show b.val + 1 * (x 0).val = b.val by omega)
  | ⟨1, _⟩ => exact Fin.ext (show h.val + 1 * (x 1).val = h.val by omega)
  | ⟨2, _⟩ => exact Fin.ext (show c.val + 1 * (x 2).val = c.val by omega)
  | ⟨3, _⟩ => exact Fin.ext (show q.val + 0 * (x 3).val = q.val by omega)
  | ⟨4, _⟩ => exact Fin.ext (show 0 + 1 * (x 4).val = (x 4).val by omega)

/-! ## The pieces the run of a trip finds -/

/-- The eight pieces of trip `(c, g)`, last first. -/
def tripPieces (T : S8x4x16x128.Idx → F .f32) (B : S3x2x4x64x128.Idx → BitVec 32) (j0 j1 j2 j3 : Fin 8)
    (c : Fin k0_t1_loop.trips) (g : Fin k0_t2_loop.trips) : List (View.Piece (Elt F) S2048x512 .bf16) :=
  [pieceAt T B j0 j1 j2 j3 c g 3 1, pieceAt T B j0 j1 j2 j3 c g 3 0, pieceAt T B j0 j1 j2 j3 c g 2 1,
   pieceAt T B j0 j1 j2 j3 c g 2 0, pieceAt T B j0 j1 j2 j3 c g 1 1, pieceAt T B j0 j1 j2 j3 c g 1 0,
   pieceAt T B j0 j1 j2 j3 c g 0 1, pieceAt T B j0 j1 j2 j3 c g 0 0]

section Found

variable (arg7 : Memref sig .tc .vmem S8x4x16x128 .f32) (arg8 : Memref sig .tc .vmem S3x2x4x64x128 .i32)
  (X7 : BufTy.Contents (Elt F) arg7.view.ty) (X8 : BufTy.Contents (Elt F) arg8.view.ty)
  (c : Fin k0_t1_loop.trips) (g : Fin k0_t2_loop.trips)

/-- The even half's piece as the trip's loads spell it. -/
def evenPiece (d : Fin 4) (r0 r1 r2 r3 : Vec F S1x1x16x128 .f32) : View.Piece (Elt F) S2048x512 .bf16 :=
  rawPiece c g d 0
    (arg8.view.readAt (Elt F) (⟨k0_off9 c g (BitVec.ofNat 32 d.val), S1x1x1x8x128.size, ![1, 1, 1, 0, 1], k0_off9_inb c g d⟩ : LoadRect S3x2x4x64x128) X8)
    (arg8.view.readAt (Elt F) (⟨k0_off10 c g (BitVec.ofNat 32 d.val), S1x1x1x8x128.size, ![1, 1, 1, 0, 1], k0_off10_inb c g d⟩ : LoadRect S3x2x4x64x128) X8)
    (arg8.view.readAt (Elt F) (⟨k0_off11 c g (BitVec.ofNat 32 d.val), S1x1x1x8x128.size, ![1, 1, 1, 0, 1], k0_off11_inb c g d⟩ : LoadRect S3x2x4x64x128) X8)
    r0 r1 r2 r3

/-- The odd half's piece as the trip's loads spell it. -/
def oddPiece (d : Fin 4) (r0 r1 r2 r3 : Vec F S1x1x16x128 .f32) : View.Piece (Elt F) S2048x512 .bf16 :=
  rawPiece c g d 1
    (arg8.view.readAt (Elt F) (⟨k0_off13 c g (BitVec.ofNat 32 d.val), S1x1x1x8x128.size, ![1, 1, 1, 0, 1], k0_off13_inb c g d⟩ : LoadRect S3x2x4x64x128) X8)
    (arg8.view.readAt (Elt F) (⟨k0_off14 c g (BitVec.ofNat 32 d.val), S1x1x1x8x128.size, ![1, 1, 1, 0, 1], k0_off14_inb c g d⟩ : LoadRect S3x2x4x64x128) X8)
    (arg8.view.readAt (Elt F) (⟨k0_off15 c g (BitVec.ofNat 32 d.val), S1x1x1x8x128.size, ![1, 1, 1, 0, 1], k0_off15_inb c g d⟩ : LoadRect S3x2x4x64x128) X8)
    r0 r1 r2 r3

theorem evenPiece_eq (d : Fin 4) (j0 j1 j2 j3 : Fin 8) (T : S8x4x16x128.Idx → F .f32) :
    evenPiece arg8 X8 c g d (tabLd T j0 c g) (tabLd T j1 c g) (tabLd T j2 c g) (tabLd T j3 c g)
      = pieceAt T (arg8.view.read (Elt F) X8) j0 j1 j2 j3 c g d 0 := by
  unfold evenPiece pieceAt
  rw [readAt_bit arg8 X8 0 0 c (wordIx g d) _ _ (k0_off9_eq c g d), readAt_bit arg8 X8 1 0 c (wordIx g d) _ _ (k0_off10_eq c g d),
    readAt_bit arg8 X8 2 0 c (wordIx g d) _ _ (k0_off11_eq c g d)]

theorem oddPiece_eq (d : Fin 4) (j0 j1 j2 j3 : Fin 8) (T : S8x4x16x128.Idx → F .f32) :
    oddPiece arg8 X8 c g d (tabLd T j0 c g) (tabLd T j1 c g) (tabLd T j2 c g) (tabLd T j3 c g)
      = pieceAt T (arg8.view.read (Elt F) X8) j0 j1 j2 j3 c g d 1 := by
  unfold oddPiece pieceAt
  rw [readAt_bit arg8 X8 0 1 c (wordIx g d) _ _ (k0_off13_eq c g d), readAt_bit arg8 X8 1 1 c (wordIx g d) _ _ (k0_off14_eq c g d),
    readAt_bit arg8 X8 2 1 c (wordIx g d) _ _ (k0_off15_eq c g d)]

/-- The eight pieces as the trip's loads spell them. -/
def foundPieces (r0 r1 r2 r3 : Vec F S1x1x16x128 .f32) : List (View.Piece (Elt F) S2048x512 .bf16) :=
  [oddPiece arg8 X8 c g 3 r0 r1 r2 r3, evenPiece arg8 X8 c g 3 r0 r1 r2 r3, oddPiece arg8 X8 c g 2 r0 r1 r2 r3,
   evenPiece arg8 X8 c g 2 r0 r1 r2 r3, oddPiece arg8 X8 c g 1 r0 r1 r2 r3, evenPiece arg8 X8 c g 1 r0 r1 r2 r3,
   oddPiece arg8 X8 c g 0 r0 r1 r2 r3, evenPiece arg8 X8 c g 0 r0 r1 r2 r3]

theorem foundPieces_eq (j0 j1 j2 j3 : Fin 8) (T : S8x4x16x128.Idx → F .f32) :
    foundPieces arg8 X8 c g (tabLd T j0 c g) (tabLd T j1 c g) (tabLd T j2 c g) (tabLd T j3 c g)
      = tripPieces T (arg8.view.read (Elt F) X8) j0 j1 j2 j3 c g := by
  unfold foundPieces tripPieces
  rw [oddPiece_eq, oddPiece_eq, oddPiece_eq, oddPiece_eq, evenPiece_eq, evenPiece_eq, evenPiece_eq, evenPiece_eq]

end Found
-- ==== Proof.PI.Loops.lean ====
module
public import proofs.«01_k».proof.Proof.PI.Tile
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! ## The two loops that expand the words -/

section Inner

variable (𝒱 : Variants) (c : Dev nD) (bd : Option 𝒱.V) (i : grid0.Coords)
  (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole)
  (arg1 : BitVec 32) (v431 : IVec S64x128 32) (v467 : IVec S64x128 32) (v473 : IVec S1x1x1x64x128 32) (k0_t1 : Fin k0_t1_loop.trips) (v508 : BitVec 32) (v510 : BitVec 32)
  (X7 : BufTy.Contents (Elt F) arg7.view.ty) (X8 : BufTy.Contents (Elt F) arg8.view.ty)

/-- The pieces one trip writes into the high part. -/
theorem trip_hi (k : Fin k0_t2_loop.trips) : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).1
    = tripPieces (arg7.view.read (Elt F) X7) (arg8.view.read (Elt F) X8) 0 1 2 3 k0_t1 k := by
  have h : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).1 = foundPieces arg8 X8 k0_t1 k (arg7.view.readAt (Elt F) (⟨k0_off1 k0_t1 k, S1x1x16x128.size, ![1, 1, 0, 1], k0_off1_inb k0_t1 k⟩ : LoadRect S8x4x16x128) X7) (arg7.view.readAt (Elt F) (⟨k0_off2 k0_t1 k, S1x1x16x128.size, ![1, 1, 0, 1], k0_off2_inb k0_t1 k⟩ : LoadRect S8x4x16x128) X7) (arg7.view.readAt (Elt F) (⟨k0_off3 k0_t1 k, S1x1x16x128.size, ![1, 1, 0, 1], k0_off3_inb k0_t1 k⟩ : LoadRect S8x4x16x128) X7) (arg7.view.readAt (Elt F) (⟨k0_off4 k0_t1 k, S1x1x16x128.size, ![1, 1, 0, 1], k0_off4_inb k0_t1 k⟩ : LoadRect S8x4x16x128) X7) := by
    unfold trip_k0_t2; rfl
  rw [h, readAt_tab arg7 X7 0 k0_t1 k _ _ (k0_off1_eq k0_t1 k), readAt_tab arg7 X7 1 k0_t1 k _ _ (k0_off2_eq k0_t1 k), readAt_tab arg7 X7 2 k0_t1 k _ _ (k0_off3_eq k0_t1 k), readAt_tab arg7 X7 3 k0_t1 k _ _ (k0_off4_eq k0_t1 k), foundPieces_eq]

/-- The pieces one trip writes into the low part. -/
theorem trip_lo (k : Fin k0_t2_loop.trips) : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).2.1
    = tripPieces (arg7.view.read (Elt F) X7) (arg8.view.read (Elt F) X8) 4 5 6 7 k0_t1 k := by
  have h : (trip_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k).2.1 = foundPieces arg8 X8 k0_t1 k (arg7.view.readAt (Elt F) (⟨k0_off5 k0_t1 k, S1x1x16x128.size, ![1, 1, 0, 1], k0_off5_inb k0_t1 k⟩ : LoadRect S8x4x16x128) X7) (arg7.view.readAt (Elt F) (⟨k0_off6 k0_t1 k, S1x1x16x128.size, ![1, 1, 0, 1], k0_off6_inb k0_t1 k⟩ : LoadRect S8x4x16x128) X7) (arg7.view.readAt (Elt F) (⟨k0_off7 k0_t1 k, S1x1x16x128.size, ![1, 1, 0, 1], k0_off7_inb k0_t1 k⟩ : LoadRect S8x4x16x128) X7) (arg7.view.readAt (Elt F) (⟨k0_off8 k0_t1 k, S1x1x16x128.size, ![1, 1, 0, 1], k0_off8_inb k0_t1 k⟩ : LoadRect S8x4x16x128) X7) := by
    unfold trip_k0_t2; rfl
  rw [h, readAt_tab arg7 X7 4 k0_t1 k _ _ (k0_off5_eq k0_t1 k), readAt_tab arg7 X7 5 k0_t1 k _ _ (k0_off6_eq k0_t1 k), readAt_tab arg7 X7 6 k0_t1 k _ _ (k0_off7_eq k0_t1 k), readAt_tab arg7 X7 7 k0_t1 k _ _ (k0_off8_eq k0_t1 k), foundPieces_eq]

/-- The pieces of the trips before `k` of column block `c`, last first. -/
def blockPieces (T : S8x4x16x128.Idx → F .f32) (B : S3x2x4x64x128.Idx → BitVec 32) (j0 j1 j2 j3 : Fin 8)
    (c : Fin k0_t1_loop.trips) : ℕ → List (View.Piece (Elt F) S2048x512 .bf16)
  | 0 => []
  | k + 1 => (if h : k < k0_t2_loop.trips then tripPieces T B j0 j1 j2 j3 c ⟨k, h⟩ else []) ++ blockPieces T B j0 j1 j2 j3 c k

theorem blockPieces_succ (T : S8x4x16x128.Idx → F .f32) (B : S3x2x4x64x128.Idx → BitVec 32) (j0 j1 j2 j3 : Fin 8)
    (c : Fin k0_t1_loop.trips) (k : ℕ) (h : k < k0_t2_loop.trips) : blockPieces T B j0 j1 j2 j3 c (k + 1)
      = tripPieces T B j0 j1 j2 j3 c ⟨k, h⟩ ++ blockPieces T B j0 j1 j2 j3 c k :=
  congrArg (· ++ blockPieces T B j0 j1 j2 j3 c k) (dif_pos h)

theorem tripL_eq (k : Fin k0_t2_loop.trips) : tripL_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k
    = (tripPieces (arg7.view.read (Elt F) X7) (arg8.view.read (Elt F) X8) 0 1 2 3 k0_t1 k,
       tripPieces (arg7.view.read (Elt F) X7) (arg8.view.read (Elt F) X8) 4 5 6 7 k0_t1 k) := by
  unfold tripL_k0_t2
  exact Prod.ext (trip_hi 𝒱 c bd i arg2 harg2 arg3 harg3 arg4 harg4 arg5 harg5 arg6 harg6 arg7 harg7 arg8 harg8 arg9 harg9 arg10 harg10 arg1 v431 v467 v473 k0_t1 v508 v510 X7 X8 k) (trip_lo 𝒱 c bd i arg2 harg2 arg3 harg3 arg4 harg4 arg5 harg5 arg6 harg6 arg7 harg7 arg8 harg8 arg9 harg9 arg10 harg10 arg1 v431 v467 v473 k0_t1 v508 v510 X7 X8 k)

theorem pb_eq (k : ℕ) (hk : k ≤ k0_t2_loop.trips) :
    pb_k0_t2 (F := F) 𝒱 c bd i arg2 harg2 arg3 harg3 arg4 harg4 arg5 harg5 arg6 harg6 arg7 harg7 arg8 harg8 arg9 harg9 arg10 harg10 arg1 v431 v467 v473 k0_t1 v508 v510 X7 X8 k
      = (blockPieces (arg7.view.read (Elt F) X7) (arg8.view.read (Elt F) X8) 0 1 2 3 k0_t1 k,
         blockPieces (arg7.view.read (Elt F) X7) (arg8.view.read (Elt F) X8) 4 5 6 7 k0_t1 k) := by
  induction k with
  | zero => rfl
  | succ k ih =>
    have hlt : k < k0_t2_loop.trips := hk
    refine (pb_k0_t2_succ 𝒱 c bd i arg2 harg2 arg3 harg3 arg4 harg4 arg5 harg5 arg6 harg6 arg7 harg7 arg8 harg8 arg9 harg9 arg10 harg10 arg1 v431 v467 v473 k0_t1 v508 v510 X7 X8 ⟨k, hlt⟩).trans ?_
    refine Prod.ext ?_ ?_
    · refine Eq.trans ?_ (blockPieces_succ _ _ _ _ _ _ _ k hlt).symm
      exact congrArg₂ (· ++ ·) ((congrArg Prod.fst (tripL_eq 𝒱 c bd i arg2 harg2 arg3 harg3 arg4 harg4 arg5 harg5 arg6 harg6 arg7 harg7 arg8 harg8 arg9 harg9 arg10 harg10 arg1 v431 v467 v473 k0_t1 v508 v510 X7 X8 ⟨k, hlt⟩))) (congrArg Prod.fst (ih (Nat.le_of_lt hlt)))
    · refine Eq.trans ?_ (blockPieces_succ _ _ _ _ _ _ _ k hlt).symm
      exact congrArg₂ (· ++ ·) ((congrArg Prod.snd (tripL_eq 𝒱 c bd i arg2 harg2 arg3 harg3 arg4 harg4 arg5 harg5 arg6 harg6 arg7 harg7 arg8 harg8 arg9 harg9 arg10 harg10 arg1 v431 v467 v473 k0_t1 v508 v510 X7 X8 ⟨k, hlt⟩))) (congrArg Prod.snd (ih (Nat.le_of_lt hlt)))

/-- The pieces of the column blocks before `n`, last first. -/
def allPieces (T : S8x4x16x128.Idx → F .f32) (B : S3x2x4x64x128.Idx → BitVec 32) (j0 j1 j2 j3 : Fin 8) :
    ℕ → List (View.Piece (Elt F) S2048x512 .bf16)
  | 0 => []
  | n + 1 => (if h : n < k0_t1_loop.trips then blockPieces T B j0 j1 j2 j3 ⟨n, h⟩ k0_t2_loop.trips else [])
      ++ allPieces T B j0 j1 j2 j3 n

theorem allPieces_succ (T : S8x4x16x128.Idx → F .f32) (B : S3x2x4x64x128.Idx → BitVec 32) (j0 j1 j2 j3 : Fin 8)
    (n : Fin k0_t1_loop.trips) : allPieces T B j0 j1 j2 j3 (n.val + 1)
      = blockPieces T B j0 j1 j2 j3 n k0_t2_loop.trips ++ allPieces T B j0 j1 j2 j3 n.val :=
  congrArg (· ++ allPieces T B j0 j1 j2 j3 n.val) (dif_pos n.isLt)

/-- Every piece of the two loops holds the expanded weights where it lands. -/
theorem allPieces_val (T : S8x4x16x128.Idx → F .f32) (B : S3x2x4x64x128.Idx → BitVec 32) (j0 j1 j2 j3 : Fin 8) (n : ℕ) :
    ∀ p ∈ allPieces T B j0 j1 j2 j3 n, ∀ x, p.2 x = (fun y => pickSigned (bitAt B 0 y) (bitAt B 1 y) (bitAt B 2 y)
      (tabAt T j0 y) (tabAt T j1 y) (tabAt T j2 y) (tabAt T j3 y)) (p.1.emb x) := by
  have hb : ∀ c k, ∀ p ∈ blockPieces T B j0 j1 j2 j3 c k, ∀ x, p.2 x = (fun y => pickSigned (bitAt B 0 y) (bitAt B 1 y)
      (bitAt B 2 y) (tabAt T j0 y) (tabAt T j1 y) (tabAt T j2 y) (tabAt T j3 y)) (p.1.emb x) := by
    intro c k
    induction k with
    | zero => intro p hp; exact absurd hp List.not_mem_nil
    | succ k ih =>
      intro p hp
      rcases List.mem_append.mp hp with hp | hp
      · split at hp
        · unfold tripPieces at hp
          simp only [List.mem_cons, List.not_mem_nil, or_false] at hp
          rcases hp with rfl | rfl | rfl | rfl | rfl | rfl | rfl | rfl <;> intro x <;> exact pieceAt_val T B j0 j1 j2 j3 _ _ _ _ x
        · exact absurd hp List.not_mem_nil
      · exact ih p hp
  induction n with
  | zero => intro p hp; exact absurd hp List.not_mem_nil
  | succ n ih =>
    intro p hp
    rcases List.mem_append.mp hp with hp | hp
    · split at hp
      · exact hb _ _ p hp
      · exact absurd hp List.not_mem_nil
    · exact ih p hp

theorem mem_tripPieces (T : S8x4x16x128.Idx → F .f32) (B : S3x2x4x64x128.Idx → BitVec 32) (j0 j1 j2 j3 : Fin 8)
    (c : Fin k0_t1_loop.trips) (g : Fin k0_t2_loop.trips) (d : Fin 4) (h : Fin 2) :
    pieceAt T B j0 j1 j2 j3 c g d h ∈ tripPieces T B j0 j1 j2 j3 c g := by
  unfold tripPieces
  fin_cases d <;> fin_cases h <;> simp

/-- The pieces of the two loops cover the expanded weights. -/
theorem allPieces_cover (T : S8x4x16x128.Idx → F .f32) (B : S3x2x4x64x128.Idx → BitVec 32) (j0 j1 j2 j3 : Fin 8)
    (y : S2048x512.Idx) : ∃ p ∈ allPieces T B j0 j1 j2 j3 4, y ∈ p.1.set := by
  have h0 : (y 0).val < 2048 := (y 0).isLt
  have h1 : (y 1).val < 512 := (y 1).isLt
  have hb : ∀ c : Fin k0_t1_loop.trips, (y 1).val / 128 = c.val → ∀ k, (y 0).val / 128 < k → k ≤ 16 →
      ∃ p ∈ blockPieces T B j0 j1 j2 j3 c k, y ∈ p.1.set := by
    intro c hc k
    induction k with
    | zero => intro h; exact absurd h (Nat.not_lt_zero _)
    | succ k ih =>
      intro hk hle
      by_cases hlt : (y 0).val / 128 < k
      · obtain ⟨p, hp, hy⟩ := ih hlt (by omega)
        exact ⟨p, List.mem_append_right _ hp, hy⟩
      · have hk' : k < k0_t2_loop.trips := show k < 16 by omega
        refine ⟨_, List.mem_append_left _ ?_, pieceAt_cover T B j0 j1 j2 j3 c ⟨k, hk'⟩ y (show _ = k by omega) hc⟩
        rw [dif_pos hk']
        exact mem_tripPieces _ _ _ _ _ _ _ _ _ _
  have ha : ∀ n, (y 1).val / 128 < n → n ≤ 4 → ∃ p ∈ allPieces T B j0 j1 j2 j3 n, y ∈ p.1.set := by
    intro n
    induction n with
    | zero => intro h; exact absurd h (Nat.not_lt_zero _)
    | succ n ih =>
      intro hn hle
      by_cases hlt : (y 1).val / 128 < n
      · obtain ⟨p, hp, hy⟩ := ih hlt (by omega)
        exact ⟨p, List.mem_append_right _ hp, hy⟩
      · have hn' : n < k0_t1_loop.trips := show n < 4 by omega
        obtain ⟨p, hp, hy⟩ := hb ⟨n, hn'⟩ (show _ = n by omega) 16 (by omega) le_rfl
        refine ⟨p, List.mem_append_left _ ?_, hy⟩
        rw [dif_pos hn']
        exact hp
  exact ha 4 (by omega) le_rfl

/-- The outer loop's invariant before column block `n`: both parts hold the pieces of the blocks before it. -/
abbrev inv_outer (X7 : BufTy.Contents (Elt F) arg7.view.ty) (X8 : BufTy.Contents (Elt F) arg8.view.ty)
    (G9 : BufTy.Contents (Elt F) arg9.view.ty) (G10 : BufTy.Contents (Elt F) arg10.view.ty) (n : ℕ) (_u : PUnit) :
    sProp (MT nD τ sig Unit (Elt F) ℕ (UR sig nD τ) ℕ) :=
  iprop((arg7.view.loc (c : Thread nD τ) ↦[arg7.view.set]{fullShare} X7) ∗ (arg8.view.loc (c : Thread nD τ) ↦[arg8.view.set]{fullShare} X8)
    ∗ (∃ f, (arg9.view.loc (c : Thread nD τ) ↦[arg9.view.set]{fullShare} f)
        ∗ ⌜f = arg9.view.writes (Elt F) G9 (allPieces (arg7.view.read (Elt F) X7) (arg8.view.read (Elt F) X8) 0 1 2 3 n)⌝)
    ∗ (∃ f, (arg10.view.loc (c : Thread nD τ) ↦[arg10.view.set]{fullShare} f)
        ∗ ⌜f = arg10.view.writes (Elt F) G10 (allPieces (arg7.view.read (Elt F) X7) (arg8.view.read (Elt F) X8) 4 5 6 7 n)⌝))

set_option warn.classDefReducibility false in
/-- The outer loop, by that invariant: one trip is the inner loop. -/
@[sl_loop] def loopInv_outer (E : Set ℕ) (G9 : BufTy.Contents (Elt F) arg9.view.ty) (G10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg1 v431 v467 v473 where
  inv := inv_outer c arg7 arg8 arg9 arg10 X7 X8 G9 G10
  step n u := by
    unfold inv_outer k0_t1_body
    iintro ⟨HR_arg7, HR_arg8, ⟨%f9, HW_arg9, %h9⟩, ⟨%f10, HW_arg10, %h10⟩⟩
    sl_exec
    sl_step
    have hp := fun v508 v510 => pb_eq 𝒱 c bd i arg2 harg2 arg3 harg3 arg4 harg4 arg5 harg5 arg6 harg6 arg7 harg7 arg8 harg8 arg9 harg9 arg10 harg10 arg1 v431 v467 v473 n v508 v510 X7 X8
      k0_t2_loop.trips le_rfl
    isplitl [HR_arg7]; · iexact HR_arg7
    isplitl [HR_arg8]; · iexact HR_arg8
    isplitl [HW_arg9]
    · iexists _; isplitl [HW_arg9]; · iexact HW_arg9
      ipureintro
      rw [h9, ← View.writes_append, allPieces_succ _ _ _ _ _ _ n]
      exact congrArg (fun L => arg9.view.writes (Elt F) G9 (L ++ _)) (congrArg Prod.fst (hp _ _))
    iexists _; isplitl [HW_arg10]; · iexact HW_arg10
    ipureintro
    rw [h10, ← View.writes_append, allPieces_succ _ _ _ _ _ _ n]
    exact congrArg (fun L => arg10.view.writes (Elt F) G10 (L ++ _)) (congrArg Prod.snd (hp _ _))

end Inner
-- ==== Proof.PI.Runs.lean ====
module
public import proofs.«01_k».proof.Proof.PI.Loops
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 9) — by arithmetic of the point. -/
theorem hcond0_0 : ∀ t : Fin cfg0.N, cond0_0 (grid0.coords t) ↔ t.val % 9 = 0 :=
  (fun t => by
    have ht : t.val < 126 := Nat.lt_of_lt_of_eq t.isLt N_0
    have e0 : (grid0.coords t 0).val = t.val / 9 % 14 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := (Scalar.cmpi .ne (Scalar.extui (Scalar.cmpi .ne (BitVec.ofNat 32 (i 1).val) 0#32)) 0#32) = 1#1
/-- It holds at the points whose coordinates have 1 ≤ i1 — by arithmetic of the point. -/
theorem hcond0_1 : ∀ t : Fin cfg0.N, cond0_1 (grid0.coords t) ↔ 1 ≤ t.val % 9 :=
  (fun t => by
    have ht : t.val < 126 := Nat.lt_of_lt_of_eq t.isLt N_0
    have e0 : (grid0.coords t 0).val = t.val / 9 % 14 := Pipeline.Grid.coords_val t 0 (by decide) rfl
    have e1 : (grid0.coords t 1).val = t.val / 1 % 9 := Pipeline.Grid.coords_val t 1 (by decide) rfl
    simp only [cond0_1, e0, e1]
    word_cmp
   : ∀ t : Fin grid0.N, cond0_1 (grid0.coords t) ↔ 1 ≤ t.val % 9)

/-- The condition of the body's `scf.if` 2 (`k0_h3`), from the grid coordinates (the skeleton's scalar
    chain substituted). -/
abbrev cond0_2 (i : grid0.Coords) : Prop := k0_cond3 i = 1#1
/-- It holds at the points ≡ 8 (mod 9) — by arithmetic of the point. -/
theorem hcond0_2 : ∀ t : Fin cfg0.N, cond0_2 (grid0.coords t) ↔ t.val % 9 = 8 :=
  (fun t => by
    have ht : t.val < 126 := Nat.lt_of_lt_of_eq t.isLt N_0
    have e0 : (grid0.coords t 0).val = t.val / 9 % 14 := Pipeline.Grid.coords_val t 0 (by decide) rfl
    have e1 : (grid0.coords t 1).val = t.val / 1 % 9 := Pipeline.Grid.coords_val t 1 (by decide) rfl
    simp only [cond0_2, k0_cond3, e0, e1]
    word_cmp
   : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the points of case A the printed configuration (`Cfg.idle`) calls output 3 idle: the case stores nothing into it. -/
theorem idleAt0_3_A : ∀ t : Fin cfg0.N, cond0_0 (grid0.coords t) → ¬cond0_1 (grid0.coords t) → ¬cond0_2 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → ¬cond0_2 (grid0.coords t) → (cfg0.win 3).flush t = false := by decide +kernel
/-- At the points of case B the printed configuration (`Cfg.idle`) calls output 3 idle: the case stores nothing into it. -/
theorem idleAt0_3_B : ∀ t : Fin cfg0.N, ¬cond0_0 (grid0.coords t) → cond0_1 (grid0.coords t) → ¬cond0_2 (grid0.coords t) → cfg0.idle 3 (grid0.coords t) = true := by decide +kernel
/-- At the points of case B the pipeline does not write output 3's block back. -/
theorem noFlush0_3_B : ∀ t : Fin cfg0.N, ¬cond0_0 (grid0.coords t) → cond0_1 (grid0.coords t) → ¬cond0_2 (grid0.coords t) → (cfg0.win 3).flush t = false := by decide +kernel
/-- At the points of case C the printed configuration (`Cfg.idle`) calls output 3 live: the case stores into it. -/
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs: a subtype the run finds -/

/-- One staging buffer of output window 3, through which its contents are stated (`View.read_writes_of_cover`: the
    choice does not matter). -/
abbrev VO0_3 : View sig .tc .vmem S768x512 .bf16 := (Memref.whole cc0_stg3_0 : Memref sig .tc .vmem S768x512 .bf16).view
/-- Each window's current staging memref at point `t`, spelled as the pipeline passes it (`bodyAt0`), and its wholeness. -/
abbrev ms0_0 (t : Fin cfg0.N) : Memref sig .tc .vmem S768x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x256x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x16x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x512 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S768x512 .f32 := Memref.whole cc0_scratch0
abbrev scM0_1 : Memref sig .tc .vmem S8x4x16x128 .f32 := Memref.whole cc0_scratch1
abbrev scM0_2 : Memref sig .tc .vmem S3x2x4x64x128 .i32 := Memref.whole cc0_scratch2
abbrev scM0_3 : Memref sig .tc .vmem S2048x512 .bf16 := Memref.whole cc0_scratch3
abbrev scM0_4 : Memref sig .tc .vmem S2048x512 .bf16 := Memref.whole cc0_scratch4
/-- The scratch `arg6` the kernel carries between points, as a view: what it holds is stated through it. -/
abbrev VS0_0 : View sig .tc .vmem S768x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen
end
-- ==== Proof.PI.RunA.lean ====
module
public import proofs.«01_k».proof.Proof.PI.Runs
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

set_option maxHeartbeats 2000000 in
/-- The body run at the first step of a column block: the sum is started. The lists are the pieces its stores leave in the buffers, last first. -/
def kernelRun0_A (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) :
    Σ' (L3 : List (View.Piece (Elt F) S768x512 .bf16)), Σ' (LS0 : List (View.Piece (Elt F) S768x512 .f32)), Σ' (LT3 : List (View.Piece (Elt F) S2048x512 .bf16)), { LT4 : List (View.Piece (Elt F) S2048x512 .bf16) //
      ∀ (xi3 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0_bcq_linear i arg2 harg2 arg3 harg3 arg4 harg4 arg5 harg5 arg6 harg6 arg7 harg7 arg8 harg8 arg9 harg9 arg10 harg10) K } := by
  refine ⟨[], ?_, ?_, ?_, fun xi3 E K => ?run⟩
  case run =>
    simp only [cc0_bcq_linear_eq_skeleton]; unfold cc0_bcq_linear_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.KernelIdeal.Gen
end
-- ==== Proof.PI.RunB.lean ====
module
public import proofs.«01_k».proof.Proof.PI.RunA
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

set_option maxHeartbeats 2000000 in
/-- The body run at a middle step: the partial product is added to the sum. The lists are the pieces its stores leave in the buffers, last first. -/
def kernelRun0_B (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) :
    Σ' (L3 : List (View.Piece (Elt F) S768x512 .bf16)), Σ' (LS0 : List (View.Piece (Elt F) S768x512 .f32)), Σ' (LT3 : List (View.Piece (Elt F) S2048x512 .bf16)), { LT4 : List (View.Piece (Elt F) S2048x512 .bf16) //
      ∀ (xi3 : Vec F S768x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0_bcq_linear i arg2 harg2 arg3 harg3 arg4 harg4 arg5 harg5 arg6 harg6 arg7 harg7 arg8 harg8 arg9 harg9 arg10 harg10) K } := by
  refine ⟨[], ?_, ?_, ?_, fun xi3 E K => ?run⟩
  case run =>
    simp only [cc0_bcq_linear_eq_skeleton]; unfold cc0_bcq_linear_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.KernelIdeal.Gen
end
-- ==== Proof.PI.RunC.lean ====
module
public import proofs.«01_k».proof.Proof.PI.RunB
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

set_option maxHeartbeats 2000000 in
/-- The body run at the last step: the partial product is added and the sum is rounded into the result. The lists are the pieces its stores leave in the buffers, last first. -/
def kernelRun0_C (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) :
    Σ' (L3 : List (View.Piece (Elt F) S768x512 .bf16)), Σ' (LS0 : List (View.Piece (Elt F) S768x512 .f32)), Σ' (LT3 : List (View.Piece (Elt F) S2048x512 .bf16)), { LT4 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ d, owns (c : Thread nD τ) arg7 fullShare d) ∗ (∃ d, owns (c : Thread nD τ) arg8 fullShare d) ∗ (∃ f, arg9.view.loc (c : Thread nD τ) ↦[arg9.view.set]{fullShare} arg9.view.writes (Elt F) f LT3) ∗ (∃ f, arg10.view.loc (c : Thread nD τ) ↦[arg10.view.set]{fullShare} arg10.view.writes (Elt F) f LT4)) -∗ K ⟨⟩))
          ⊢ wp frame (wpE (defs₀ (F := F)) Variants.none c none) E (cc0_bcq_linear i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_bcq_linear_eq_skeleton]; unfold cc0_bcq_linear_skel
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.KernelIdeal.Gen
end
-- ==== Proof.PI.Frame.lean ====
module
public import proofs.«01_k».proof.Proof.PI.RunC
public import Idealize.ShloMosaic.Lib.Claim
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Case A stores nothing into output 3 (the window is idle at its points and not written back there):
    no pieces — a placeholder (junk read back) that nothing consults, since at these points the window is neither
    written back nor read at the next point (Lib/Pipeline.lean "Idle points"). -/
def out0_A_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) : Vec F S768x512 .bf16 :=
  VO0_3.read (Elt F) (VO0_3.writes (Elt F) VO0_3.junk (kernelRun0_A c i arg2 harg2 arg3 harg3 arg4 harg4 arg5 harg5 arg6 harg6 arg7 harg7 arg8 harg8 arg9 harg9 arg10 harg10 hc0 hc1 hc2 x0 x1 x2).1)

/-- Case A's pieces for scratch `arg6`, which the kernel carries between points, cover it: 1 piece of `S768x512` tiling it (Lib/Ring.lean `Piece.tiledL`). -/
theorem scover0_A_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) (y : S768x512.Idx) :
    ∃ pc ∈ (kernelRun0_A c i arg2 harg2 arg3 harg3 arg4 harg4 arg5 harg5 arg6 harg6 arg7 harg7 arg8 harg8 arg9 harg9 arg10 harg10 hc0 hc1 hc2 x0 x1 x2).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 x0 x1 x2).2.1 S768x512.size (by sl_kernel_rfl) y

/-- What case A leaves in scratch `arg6`: its pieces read back over junk. -/
def sout0_A_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : cond0_0 i) (hc1 : ¬cond0_1 i) (hc2 : ¬cond0_2 i)
    (x0 : Vec F S768x2048 .bf16) (x1 : Vec F S3x256x512 .i8) (x2 : Vec F S3x16x512 .bf16) : Vec F S768x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 x0 x1 x2).2.1)

/-- Case B stores nothing into output 3 (the window is idle at its points and not written back there):
    no pieces — a placeholder (junk read back) that nothing consults, since at these points the window is neither
    written back nor read at the next point (Lib/Pipeline.lean "Idle points"). -/
def out0_B_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) : Vec F S768x512 .bf16 :=
  VO0_3.read (Elt F) (VO0_3.writes (Elt F) VO0_3.junk (kernelRun0_B c i arg2 harg2 arg3 harg3 arg4 harg4 arg5 harg5 arg6 harg6 arg7 harg7 arg8 harg8 arg9 harg9 arg10 harg10 hc0 hc1 hc2 x0 x1 x2 xs0).1)

/-- Case B's pieces for scratch `arg6`, which the kernel carries between points, cover it: 1 piece of `S768x512` tiling it (Lib/Ring.lean `Piece.tiledL`). -/
theorem scover0_B_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) (y : S768x512.Idx) :
    ∃ pc ∈ (kernelRun0_B c i arg2 harg2 arg3 harg3 arg4 harg4 arg5 harg5 arg6 harg6 arg7 harg7 arg8 harg8 arg9 harg9 arg10 harg10 hc0 hc1 hc2 x0 x1 x2 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 x0 x1 x2 xs0).2.1 S768x512.size (by sl_kernel_rfl) y

/-- What case B leaves in scratch `arg6`: its pieces read back over junk. -/
def sout0_B_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : ¬cond0_2 i)
    (x0 : Vec F S768x2048 .bf16) (x1 : Vec F S3x256x512 .i8) (x2 : Vec F S3x16x512 .bf16) (xs0 : Vec F S768x512 .f32) : Vec F S768x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 hc2 x0 x1 x2 xs0).2.1)

/-- Case C's pieces for output 3 tile its block (1 store of `S768x512`, checked by the kernel's evaluation: Lib/Ring.lean `Piece.tiledL`, linear in the pieces, through a loop's `@[irreducible]` trip theorem too), so they cover it. -/
theorem cover0_C_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) (y : S768x512.Idx) :
    ∃ pc ∈ (kernelRun0_C c i arg2 harg2 arg3 harg3 arg4 harg4 arg5 harg5 arg6 harg6 arg7 harg7 arg8 harg8 arg9 harg9 arg10 harg10 hc0 hc1 hc2 x0 x1 x2 xs0).1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 xs0).1 S768x512.size (by sl_kernel_rfl) y

/-- What case C leaves in output 3's staging buffer: its pieces read back over junk. -/
def out0_C_3 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) : Vec F S768x512 .bf16 :=
  VO0_3.read (Elt F) (VO0_3.writes (Elt F) VO0_3.junk (kernelRun0_C c i arg2 harg2 arg3 harg3 arg4 harg4 arg5 harg5 arg6 harg6 arg7 harg7 arg8 harg8 arg9 harg9 arg10 harg10 hc0 hc1 hc2 x0 x1 x2 xs0).1)

/-- Case C's pieces for scratch `arg6`, which the kernel carries between points, cover it: 1 piece of `S768x512` tiling it (Lib/Ring.lean `Piece.tiledL`). -/
theorem scover0_C_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) (y : S768x512.Idx) :
    ∃ pc ∈ (kernelRun0_C c i arg2 harg2 arg3 harg3 arg4 harg4 arg5 harg5 arg6 harg6 arg7 harg7 arg8 harg8 arg9 harg9 arg10 harg10 hc0 hc1 hc2 x0 x1 x2 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 x0 x1 x2 xs0).2.1 S768x512.size (by sl_kernel_rfl) y

/-- What case C leaves in scratch `arg6`: its pieces read back over junk. -/
def sout0_C_0 (c : Dev nD) (i : grid0.Coords) (arg2 : Memref sig .tc .vmem S768x2048 .bf16) (harg2 : arg2.IsWhole) (arg3 : Memref sig .tc .vmem S3x256x512 .i8) (harg3 : arg3.IsWhole) (arg4 : Memref sig .tc .vmem S3x16x512 .bf16) (harg4 : arg4.IsWhole) (arg5 : Memref sig .tc .vmem S768x512 .bf16) (harg5 : arg5.IsWhole) (arg6 : Memref sig .tc .vmem S768x512 .f32) (harg6 : arg6.IsWhole) (arg7 : Memref sig .tc .vmem S8x4x16x128 .f32) (harg7 : arg7.IsWhole) (arg8 : Memref sig .tc .vmem S3x2x4x64x128 .i32) (harg8 : arg8.IsWhole) (arg9 : Memref sig .tc .vmem S2048x512 .bf16) (harg9 : arg9.IsWhole) (arg10 : Memref sig .tc .vmem S2048x512 .bf16) (harg10 : arg10.IsWhole) (hc0 : ¬cond0_0 i) (hc1 : cond0_1 i) (hc2 : cond0_2 i)
    (x0 : Vec F S768x2048 .bf16) (x1 : Vec F S3x256x512 .i8) (x2 : Vec F S3x16x512 .bf16) (xs0 : Vec F S768x512 .f32) : Vec F S768x512 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 hc2 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S768x512 .bf16 × Vec F S768x512 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩))
  | n + 1, hn =>
    if h0 : (n + 1) % 9 = 0 then
      if h1 : 1 ≤ (n + 1) % 9 then
        False.elim (by have hN : n + 1 < 126 := lt_of_lt_of_eq hn (show cfg0.N = 126 from N_0); omega)
      else
        if h2 : (n + 1) % 9 = 8 then
          False.elim (by have hN : n + 1 < 126 := lt_of_lt_of_eq hn (show cfg0.N = 126 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩))
    else
      if h1 : 1 ≤ (n + 1) % 9 then
        if h2 : (n + 1) % 9 = 8 then
          (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (outsAt0 c n (Nat.lt_of_succ_lt hn)).2)
        else
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (outsAt0 c n (Nat.lt_of_succ_lt hn)).2)
      else
        False.elim (by have hN : n + 1 < 126 := lt_of_lt_of_eq hn (show cfg0.N = 126 from N_0); omega)

/-- `outsAt0` at a point of case A: that case's contents. -/
theorem outsAt0_A (c : Dev nD) (t : Fin cfg0.N) (h0 : t.val % 9 = 0) (h1 : ¬1 ≤ t.val % 9) (h2 : ¬t.val % 9 = 8) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (fun h => h2 ((hcond0_2 t).mp h)) (iblk m c 0 t) (iblk m c 1 t) (iblk m c 2 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 9 = 0) (h1 : 1 ≤ t.val % 9) (h2 : ¬t.val % 9 = 8) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 9 = 0) (h1 : 1 ≤ t.val % 9) (h2 : t.val % 9 = 8) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) ((hcond0_2 t).mpr h2) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 126 := lt_of_lt_of_eq t.isLt (show cfg0.N = 126 from N_0)
  by_cases h0 : t.val % 9 = 0
  · by_cases h1 : 1 ≤ t.val % 9
    · exfalso; omega
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_A t ((hcond0_0 t).mpr h0) (fun h => h1 ((hcond0_1 t).mp h)) (fun h => h2 ((hcond0_2 t).mp h))) (noFlush0_3_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold sout0_A_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t)).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HS3]; · iexact HS3
          isplitl [HS4]; · iexact HS4
          iintro ⟨H0, H1, H2, H3, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          iexists _; iexact H3
        · rw [PhiS_castSucc m c t, PhiS_pos m c _ _ hz]
          rw [outsAt0_A m c t h0 h1 h2]
          unfold sout0_A_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_A c (grid0.coords t) _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t)).2.2.2.2 _ Set.univ _)
          isplitl [H0]; · iexact H0
          isplitl [H1]; · iexact H1
          isplitl [H2]; · iexact H2
          isplitl [H3]; · iexact H3
          isplitl [HS0]; · iexists _; iexact HS0
          isplitl [HS1]; · iexact HS1
          isplitl [HS2]; · iexact HS2
          isplitl [HS3]; · iexact HS3
          isplitl [HS4]; · iexact HS4
          iintro ⟨H0, H1, H2, H3, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          iexists _; iexact H3
  · by_cases h1 : 1 ≤ t.val % 9
    · by_cases h2 : t.val % 9 = 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3_C t (fun h => h0 ((hcond0_0 t).mp h)) ((hcond0_1 t).mpr h1) ((hcond0_2 t).mpr h2)], after0_3]
        by_cases hz : t.val = 0
        · exfalso; have hN : t.val < 126 := lt_of_lt_of_eq t.isLt (show cfg0.N = 126 from N_0); omega
        · rw [PhiS_castSucc m c t, PhiS_pos m c _ _ hz]
          rw [outsAt0_C m c t h0 h1 h2]
          unfold out0_C_3 sout0_C_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_C c (grid0.coords t) _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) _).2.2.2.2 Set.univ _)
          isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          isplitl [HS3]; · iexact HS3
          isplitl [HS4]; · iexact HS4
          iintro ⟨H0, H1, H2, ⟨%e3, H3⟩, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_C_3 c _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [Dat.leavesExact_idle (dats m 0 c) 3 t (idleAt0_3_B t (fun h => h0 ((hcond0_0 t).mp h)) ((hcond0_1 t).mpr h1) (fun h => h2 ((hcond0_2 t).mp h))) (noFlush0_3_B t (fun h => h0 ((hcond0_0 t).mp h)) ((hcond0_1 t).mpr h1) (fun h => h2 ((hcond0_2 t).mp h)))]
        by_cases hz : t.val = 0
        · exfalso; have hN : t.val < 126 := lt_of_lt_of_eq t.isLt (show cfg0.N = 126 from N_0); omega
        · rw [PhiS_castSucc m c t, PhiS_pos m c _ _ hz]
          rw [outsAt0_B m c t h0 h1 h2]
          unfold sout0_B_0; (try dsimp only)
          iintro ⟨⟨⟨HS0, HS1, HS2, HS3, HS4⟩, Hg⟩, Ho, ⟨%d0, H0⟩, ⟨%d1, H1⟩, ⟨%d2, H2⟩, ⟨%d3, H3⟩⟩
          iapply ((kernelRun0_B c (grid0.coords t) _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) _).2.2.2.2 _ Set.univ _)
          isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          isplitl [HS3]; · iexact HS3
          isplitl [HS4]; · iexact HS4
          iintro ⟨H0, H1, H2, H3, ⟨%es0, HS0⟩, HS1, HS2, ⟨%fT3, HS3⟩, ⟨%fT4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _)
              isplitl [HS1]
              · iexact HS1
              isplitl [HS2]
              · iexact HS2
              isplitl [HS3]
              · iexists _; unfold owns; iexists _; isplitr
                swap; · iexact HS3
                ipureintro; rfl
              iexists _; unfold owns; iexists _; isplitr
              swap; · iexact HS4
              ipureintro; rfl
            iexact Hg
          isplitl [Ho]; · iexact Ho
          isplitl [H0]; · iexact H0
          isplitl [H1]; · iexact H1
          isplitl [H2]; · iexact H2
          iexists _; iexact H3
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexact HS1
    isplitl [HS2]
    · iexact HS2
    isplitl [HS3]
    · iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 126 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim's statement, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen
end
-- ==== Proof.PI.Tables.lean ====
module
public import proofs.«01_k».proof.Proof.PI.Tile
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-- A coordinate of an index of a box of unit stride. -/
theorem unit_emb_val {s : Shape} (off size : Fin s.rank → ℕ) (inb : ∀ a, off a + size a ≤ s.size a)
    (x : (Rect.unit off size inb).shape.Idx) (a : Fin s.rank) :
    ((Rect.unit off size inb).emb x a).val = off a + (x a).val := by
  rw [Rect.emb_apply]
  show off a + 1 * (x a).val = _
  rw [Nat.one_mul]

/-! What the body's stores leave in the table buffer and in the word buffer, as functions of the argument tiles. -/

/-- Table `j` of three rows of scales: the signed sum, rounded (`j < 4`), or what the rounding left out (`4 ≤ j`). -/
def tblTile (j : Fin 8) (a0 a1 a2 : FVec F S16x128 .f32) : FVec F S16x128 .f32 :=
  let hi := fun w : FVec F S16x128 .f32 => extf .f32 (truncf .bf16 w bitsLt_bf16_f32) bitsLt_bf16_f32
  let lo := fun w : FVec F S16x128 .f32 => extf .f32 (truncf .bf16 (subf w (hi w)) bitsLt_bf16_f32) bitsLt_bf16_f32
  match j with
  | 0 => hi (addf (addf a0 a1) a2)
  | 1 => hi (subf (addf a0 a1) a2)
  | 2 => hi (addf (subf a0 a1) a2)
  | 3 => hi (subf (subf a0 a1) a2)
  | 4 => lo (addf (addf a0 a1) a2)
  | 5 => lo (subf (addf a0 a1) a2)
  | 6 => lo (addf (subf a0 a1) a2)
  | 7 => lo (subf (subf a0 a1) a2)

theorem inb_tbl (j : Fin 8) (c : Fin 4) (a : Fin S8x4x16x128.rank) :
    (![j.val, c.val, 0, 0] : Fin 4 → ℕ) a + S1x1x16x128.size a ≤ S8x4x16x128.size a := by
  revert a; revert j c; decide

/-- The store of table `j` for column block `c`; `R b c` are the scales of plane `b`. -/
def tblPiece (R : Fin 3 → Fin 4 → FVec F S16x128 .f32) (c : Fin 4) (j : Fin 8) : View.Piece (Elt F) S8x4x16x128 .f32 :=
  ⟨Rect.unit ![j.val, c.val, 0, 0] S1x1x16x128.size (inb_tbl j c),
    shapeCast S1x1x16x128 (tblTile j (R 0 c) (R 1 c) (R 2 c)) shapeCasts_S16x128_S1x1x16x128⟩

/-- The eight stores of column block `c`, last first. -/
def tblBlock (R : Fin 3 → Fin 4 → FVec F S16x128 .f32) (c : Fin 4) (L : List (View.Piece (Elt F) S8x4x16x128 .f32)) :
    List (View.Piece (Elt F) S8x4x16x128 .f32) :=
  tblPiece R c 7 :: tblPiece R c 3 :: tblPiece R c 6 :: tblPiece R c 2 :: tblPiece R c 5 :: tblPiece R c 1
    :: tblPiece R c 4 :: tblPiece R c 0 :: L

/-- All stores into the table buffer, last first. -/
def tblPieces (R : Fin 3 → Fin 4 → FVec F S16x128 .f32) : List (View.Piece (Elt F) S8x4x16x128 .f32) :=
  tblBlock R 3 (tblBlock R 2 (tblBlock R 1 (tblBlock R 0 [])))

/-- Half `h` of the words `u`, doubled: its sixteen bits in both halves of the result. -/
def halfTile (h : Fin 2) (u : IVec S64x128 32) : IVec S64x128 32 :=
  match h with
  | 0 => ori (andi u (broadcast S64x128 65535#32)) (shli u (broadcast S64x128 16#32))
  | 1 => ori (andi u (broadcast S64x128 4294901760#32)) (shrui u (broadcast S64x128 16#32))

/-- Plane `b` of the words: the first signs, or where the first and another agree. -/
def planeTile (b : Fin 3) (s0 s1 s2 : IVec S64x128 32) : IVec S64x128 32 :=
  match b with
  | 0 => s0
  | 1 => xori (xori s0 s1) (constantI S64x128 32 4294967295#32)
  | 2 => xori (xori s0 s2) (constantI S64x128 32 4294967295#32)

theorem inb_bits (b : Fin 3) (h : Fin 2) (c : Fin 4) (a : Fin S3x2x4x64x128.rank) :
    (![b.val, h.val, c.val, 0, 0] : Fin 5 → ℕ) a + S1x1x1x64x128.size a ≤ S3x2x4x64x128.size a := by
  revert a; revert b h c; decide

/-- The store of half `h` of plane `b` for column block `c`; `W b c` are the words of sign plane `b`. -/
def bitPiece (W : Fin 3 → Fin 4 → IVec S64x128 32) (c : Fin 4) (b : Fin 3) (h : Fin 2) :
    View.Piece (Elt F) S3x2x4x64x128 .i32 :=
  ⟨Rect.unit ![b.val, h.val, c.val, 0, 0] S1x1x1x64x128.size (inb_bits b h c),
    shapeCast S1x1x1x64x128 (halfTile h (planeTile b (W 0 c) (W 1 c) (W 2 c))) shapeCasts_S64x128_S1x1x1x64x128⟩

/-- The six stores of column block `c`, last first. -/
def bitBlock (W : Fin 3 → Fin 4 → IVec S64x128 32) (c : Fin 4) (L : List (View.Piece (Elt F) S3x2x4x64x128 .i32)) :
    List (View.Piece (Elt F) S3x2x4x64x128 .i32) :=
  bitPiece W c 2 1 :: bitPiece W c 2 0 :: bitPiece W c 1 1 :: bitPiece W c 1 0 :: bitPiece W c 0 1
    :: bitPiece W c 0 0 :: L

/-- All stores into the word buffer, last first. -/
def bitPieces (W : Fin 3 → Fin 4 → IVec S64x128 32) : List (View.Piece (Elt F) S3x2x4x64x128 .i32) :=
  bitBlock W 3 (bitBlock W 2 (bitBlock W 1 (bitBlock W 0 [])))

/-! The tiles these stores read. -/

theorem inb_alpha (b : Fin 3) (c : Fin 4) (a : Fin S3x16x512.rank) :
    (![b.val, 0, 128 * c.val] : Fin 3 → ℕ) a + S1x16x128.size a ≤ S3x16x512.size a := by
  revert a; revert b c; decide

theorem inb_words (b : Fin 3) (c : Fin 4) (a : Fin S3x256x512.rank) :
    (![b.val, 0, 128 * c.val] : Fin 3 → ℕ) a + S1x256x128.size a ≤ S3x256x512.size a := by
  revert a; revert b c; decide

/-- The scales of plane `b`, column block `c`, as the body reads them. -/
def rdAlpha (arg4 : Memref sig .tc .vmem S3x16x512 .bf16) (harg4 : arg4.IsWhole) (x2 : Vec F S3x16x512 .bf16)
    (b : Fin 3) (c : Fin 4) : FVec F S16x128 .f32 :=
  k0_pay61 (View.readAt (Elt F) arg4.view (Rect.unit (s := S3x16x512) ![b.val, 0, 128 * c.val] S1x16x128.size (inb_alpha b c)).toLoadRect
    (harg4.unread x2))

/-- The words of sign plane `b`, column block `c`, as the body reads them. -/
def rdWords (arg3 : Memref sig .tc .vmem S3x256x512 .i8) (harg3 : arg3.IsWhole) (x1 : Vec F S3x256x512 .i8)
    (b : Fin 3) (c : Fin 4) : IVec S64x128 32 :=
  k0_pay184 (F := F) (View.readAt (Elt F) arg3.view (Rect.unit (s := S3x256x512) ![b.val, 0, 128 * c.val] S1x256x128.size (inb_words b c)).toLoadRect
    (harg3.unread x1))

/-- The scale of plane `b` at group `g`, column `128 c + l` of the tile. -/
def alphaAt (x2 : Vec F S3x16x512 .bf16) (b : Fin 3) (c : Fin 4) (g : Fin 16) (l : Fin 128) : F .f32 :=
  FloatOps.extf .f32 bitsLt_bf16_f32 (x2 (ix3 b g ⟨128 * c.val + l.val, by omega⟩))

/-- The bytes of sign plane `b`, column block `c`. -/
def bytesOf (x1 : Vec F S3x256x512 .i8) (b : Fin 3) (c : Fin 4) : IVec S256x128 8 :=
  fun z => x1 (ix3 b (z 0) ⟨128 * c.val + (z 1).val, by have : (z 1).val < 128 := (z 1).isLt; omega⟩)

theorem rdAlpha_eq (arg4 : Memref sig .tc .vmem S3x16x512 .bf16) (harg4 : arg4.IsWhole) (x2 : Vec F S3x16x512 .bf16)
    (b : Fin 3) (c : Fin 4) : rdAlpha arg4 harg4 x2 b c = fun z => alphaAt x2 b c (z 0) (z 1) := by
  funext z
  idx_vars z
  unfold rdAlpha k0_pay61
  rw [View.readAt_eq_ld, harg4.read_unread]
  show FloatOps.extf .f32 bitsLt_bf16_f32 (shapeCast S16x128 _ _ _) = _
  rw [shapeCast_apply _ _ _ (ix3 0 z0 z1) (by rw [Shape.rowMajor_val_three, Shape.rowMajor_val_two]; simp)]
  unfold alphaAt
  congr 1
  show x2 _ = x2 _
  congr 1
  funext a
  match a with
  | ⟨0, _⟩ => exact Fin.ext ((unit_emb_val _ _ (inb_alpha b c) _ _).trans (show b.val + 0 = b.val by omega))
  | ⟨1, _⟩ => exact Fin.ext ((unit_emb_val _ _ (inb_alpha b c) _ _).trans (show 0 + z0.val = z0.val by omega))
  | ⟨2, _⟩ => exact Fin.ext ((unit_emb_val _ _ (inb_alpha b c) _ _).trans (show 128 * c.val + z1.val = 128 * c.val + z1.val by omega))

theorem rdWords_eq (arg3 : Memref sig .tc .vmem S3x256x512 .i8) (harg3 : arg3.IsWhole) (x1 : Vec F S3x256x512 .i8)
    (b : Fin 3) (c : Fin 4) :
    rdWords arg3 harg3 x1 b c = bitcast S64x128 32 (bytesOf x1 b c) bitcasts_S256x128_w8_S64x128_w32 := by
  unfold rdWords k0_pay184
  rw [View.readAt_eq_ld, harg3.read_unread]
  show bitcast S64x128 32 _ _ = _
  congr 1
  funext z
  idx_vars z
  rw [shapeCast_apply _ _ _ (ix3 0 z0 z1) (by rw [Shape.rowMajor_val_three, Shape.rowMajor_val_two]; simp)]
  show x1 _ = x1 _
  congr 1
  funext a
  match a with
  | ⟨0, _⟩ => exact Fin.ext ((unit_emb_val _ _ (inb_words b c) _ _).trans (show b.val + 0 = b.val by omega))
  | ⟨1, _⟩ => exact Fin.ext ((unit_emb_val _ _ (inb_words b c) _ _).trans (show 0 + z0.val = z0.val by omega))
  | ⟨2, _⟩ => exact Fin.ext ((unit_emb_val _ _ (inb_words b c) _ _).trans (show 128 * c.val + z1.val = 128 * c.val + z1.val by omega))

/-- The contents of the table buffer. -/
def tblV (R : Fin 3 → Fin 4 → FVec F S16x128 .f32) (y : S8x4x16x128.Idx) : F .f32 :=
  tblTile (y 0) (R 0 (y 1)) (R 1 (y 1)) (R 2 (y 1)) (ix2 (y 2) (y 3))

/-- The contents of the word buffer. -/
def bitsV (W : Fin 3 → Fin 4 → IVec S64x128 32) (y : S3x2x4x64x128.Idx) : BitVec 32 :=
  halfTile (y 1) (planeTile (y 0) (W 0 (y 2)) (W 1 (y 2)) (W 2 (y 2))) (ix2 (y 3) (y 4))

theorem tblPiece_val (R : Fin 3 → Fin 4 → FVec F S16x128 .f32) (c : Fin 4) (j : Fin 8) (x : S1x1x16x128.Idx) :
    (tblPiece R c j).2 x = tblV R ((tblPiece R c j).1.emb x) := by
  idx_vars x
  have e : (tblPiece R c j).1.emb (ix4 x0 x1 x2 x3) = ix4 j c x2 x3 := by
    funext a
    match a with
    | ⟨0, _⟩ => exact Fin.ext ((unit_emb_val _ _ (inb_tbl j c) _ _).trans (show j.val + x0.val = j.val by omega))
    | ⟨1, _⟩ => exact Fin.ext ((unit_emb_val _ _ (inb_tbl j c) _ _).trans (show c.val + x1.val = c.val by omega))
    | ⟨2, _⟩ => exact Fin.ext ((unit_emb_val _ _ (inb_tbl j c) _ _).trans (show 0 + x2.val = x2.val by omega))
    | ⟨3, _⟩ => exact Fin.ext ((unit_emb_val _ _ (inb_tbl j c) _ _).trans (show 0 + x3.val = x3.val by omega))
  rw [e]
  show shapeCast S1x1x16x128 _ _ _ = _
  rw [shapeCast_apply _ _ _ (ix2 x2 x3) (by rw [Shape.rowMajor_val_four, Shape.rowMajor_val_two]; simp)]
  rfl

theorem bitPiece_val (W : Fin 3 → Fin 4 → IVec S64x128 32) (c : Fin 4) (b : Fin 3) (h : Fin 2) (x : S1x1x1x64x128.Idx) :
    (bitPiece (F := F) W c b h).2 x = bitsV W ((bitPiece (F := F) W c b h).1.emb x) := by
  idx_vars x
  have e : (bitPiece (F := F) W c b h).1.emb (ix5 x0 x1 x2 x3 x4) = ix5 b h c x3 x4 := by
    funext a
    match a with
    | ⟨0, _⟩ => exact Fin.ext ((unit_emb_val _ _ (inb_bits b h c) _ _).trans (show b.val + x0.val = b.val by omega))
    | ⟨1, _⟩ => exact Fin.ext ((unit_emb_val _ _ (inb_bits b h c) _ _).trans (show h.val + x1.val = h.val by omega))
    | ⟨2, _⟩ => exact Fin.ext ((unit_emb_val _ _ (inb_bits b h c) _ _).trans (show c.val + x2.val = c.val by omega))
    | ⟨3, _⟩ => exact Fin.ext ((unit_emb_val _ _ (inb_bits b h c) _ _).trans (show 0 + x3.val = x3.val by omega))
    | ⟨4, _⟩ => exact Fin.ext ((unit_emb_val _ _ (inb_bits b h c) _ _).trans (show 0 + x4.val = x4.val by omega))
  rw [e]
  show shapeCast S1x1x1x64x128 _ _ _ = _
  rw [shapeCast_apply _ _ _ (ix2 x3 x4) (by rw [Shape.rowMajor_val_five, Shape.rowMajor_val_two]; simp)]
  rfl

theorem mem_tblPieces (R : Fin 3 → Fin 4 → FVec F S16x128 .f32) (c : Fin 4) (j : Fin 8) : tblPiece R c j ∈ tblPieces R := by
  unfold tblPieces tblBlock
  fin_cases c <;> fin_cases j <;> simp

theorem of_mem_tblPieces (R : Fin 3 → Fin 4 → FVec F S16x128 .f32) (p : View.Piece (Elt F) S8x4x16x128 .f32)
    (hp : p ∈ tblPieces R) : ∃ c j, p = tblPiece R c j := by
  unfold tblPieces tblBlock at hp
  simp only [List.mem_cons, List.not_mem_nil, or_false] at hp
  rcases hp with h | h | h | h | h | h | h | h | h | h | h | h | h | h | h | h | h | h | h | h | h | h | h | h | h | h | h | h | h | h | h | h <;>
    exact ⟨_, _, h⟩

theorem mem_bitPieces (W : Fin 3 → Fin 4 → IVec S64x128 32) (c : Fin 4) (b : Fin 3) (h : Fin 2) :
    bitPiece (F := F) W c b h ∈ bitPieces W := by
  unfold bitPieces bitBlock
  fin_cases c <;> fin_cases b <;> fin_cases h <;> simp

theorem of_mem_bitPieces (W : Fin 3 → Fin 4 → IVec S64x128 32) (p : View.Piece (Elt F) S3x2x4x64x128 .i32)
    (hp : p ∈ bitPieces W) : ∃ c b h, p = bitPiece W c b h := by
  unfold bitPieces bitBlock at hp
  simp only [List.mem_cons, List.not_mem_nil, or_false] at hp
  rcases hp with h | h | h | h | h | h | h | h | h | h | h | h | h | h | h | h | h | h | h | h | h | h | h | h <;>
    exact ⟨_, _, _, h⟩

/-- The stores leave `tblV` in the table buffer. -/
theorem read_tblPieces {κ : Kind} {sp : Space} (v : View sig κ sp S8x4x16x128 .f32) (f : v.ty.Contents (Elt F))
    (R : Fin 3 → Fin 4 → FVec F S16x128 .f32) : v.read (Elt F) (v.writes (Elt F) f (tblPieces R)) = tblV R := by
  funext y
  refine View.read_writes_apply_of_pieces v f (tblV R) _ (fun p hp x => ?_) y ⟨_, mem_tblPieces R (y 1) (y 0), ?_⟩
  · obtain ⟨c, j, rfl⟩ := of_mem_tblPieces R p hp
    exact tblPiece_val R c j x
  · idx_vars y
    show _ ∈ (Rect.unit _ _ (inb_tbl y0 y1)).set
    rw [Rect.mem_set_unit]
    intro a
    match a with
    | ⟨0, _⟩ => exact ⟨le_refl _, Nat.lt_succ_self _⟩
    | ⟨1, _⟩ => exact ⟨le_refl _, Nat.lt_succ_self _⟩
    | ⟨2, _⟩ => exact ⟨Nat.zero_le _, (Nat.zero_add 16).symm ▸ y2.isLt⟩
    | ⟨3, _⟩ => exact ⟨Nat.zero_le _, (Nat.zero_add 128).symm ▸ y3.isLt⟩

/-- The stores leave `bitsV` in the word buffer. -/
theorem read_bitPieces {κ : Kind} {sp : Space} (v : View sig κ sp S3x2x4x64x128 .i32) (f : v.ty.Contents (Elt F))
    (W : Fin 3 → Fin 4 → IVec S64x128 32) : v.read (Elt F) (v.writes (Elt F) f (bitPieces W)) = bitsV W := by
  funext y
  refine View.read_writes_apply_of_pieces v f (bitsV W) _ (fun p hp x => ?_) y ⟨_, mem_bitPieces W (y 2) (y 0) (y 1), ?_⟩
  · obtain ⟨c, b, h, rfl⟩ := of_mem_bitPieces W p hp
    exact bitPiece_val W c b h x
  · idx_vars y
    show _ ∈ (Rect.unit _ _ (inb_bits y0 y1 y2)).set
    rw [Rect.mem_set_unit]
    intro a
    match a with
    | ⟨0, _⟩ => exact ⟨le_refl _, Nat.lt_succ_self _⟩
    | ⟨1, _⟩ => exact ⟨le_refl _, Nat.lt_succ_self _⟩
    | ⟨2, _⟩ => exact ⟨le_refl _, Nat.lt_succ_self _⟩
    | ⟨3, _⟩ => exact ⟨Nat.zero_le _, (Nat.zero_add 64).symm ▸ y3.isLt⟩
    | ⟨4, _⟩ => exact ⟨Nat.zero_le _, (Nat.zero_add 128).symm ▸ y4.isLt⟩

end Cert.KernelIdeal.Gen
end
-- ==== Proof.PI.Point.lean ====
module
public import proofs.«01_k».proof.Proof.PI.Frame
public import proofs.«01_k».proof.Proof.PI.Tables
public import Idealize.ShloMosaic.Lib.Pipeline.Value
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

/-! What one grid point computes, as a function of its three tiles and of the sum so far. -/

/-- The scales of a tile, by plane and column block. -/
def alphaV (x2 : Vec F S3x16x512 .bf16) (b : Fin 3) (c : Fin 4) : FVec F S16x128 .f32 := fun z => alphaAt x2 b c (z 0) (z 1)

/-- The sign words of a tile, by plane and column block. -/
def wordV (x1 : Vec F S3x256x512 .i8) (b : Fin 3) (c : Fin 4) : IVec S64x128 32 :=
  bitcast S64x128 32 (bytesOf x1 b c) bitcasts_S256x128_w8_S64x128_w32

/-- The expanded weights of a tile, high part. -/
def wHi (x1 : Vec F S3x256x512 .i8) (x2 : Vec F S3x16x512 .bf16) : Vec F S2048x512 .bf16 :=
  expHi (tblV (alphaV x2)) (bitsV (wordV (F := F) x1))

/-- The expanded weights of a tile, low part. -/
def wLo (x1 : Vec F S3x256x512 .i8) (x2 : Vec F S3x16x512 .bf16) : Vec F S2048x512 .bf16 :=
  expLo (tblV (alphaV x2)) (bitsV (wordV (F := F) x1))

/-- The product of a tile of `x` with the expanded weights. -/
def part (x0 : Vec F S768x2048 .bf16) (x1 : Vec F S3x256x512 .i8) (x2 : Vec F S3x16x512 .bf16) : FVec F S768x512 .f32 :=
  k0_pay199 x0 (wHi x1 x2) (wLo x1 x2)

theorem rdAlpha_eq' (arg4 : Memref sig .tc .vmem S3x16x512 .bf16) (harg4 : arg4.IsWhole) (x2 : Vec F S3x16x512 .bf16) :
    rdAlpha arg4 harg4 x2 = alphaV x2 := funext fun b => funext fun c => rdAlpha_eq arg4 harg4 x2 b c

theorem rdWords_eq' (arg3 : Memref sig .tc .vmem S3x256x512 .i8) (harg3 : arg3.IsWhole) (x1 : Vec F S3x256x512 .i8) :
    rdWords arg3 harg3 x1 = wordV (F := F) x1 := funext fun b => funext fun c => rdWords_eq arg3 harg3 x1 b c

/-- The two loops' stores, read back whole. -/
theorem readCov_allPieces {κ : Kind} {sp : Space} (v : View sig κ sp S2048x512 .bf16) (T : S8x4x16x128.Idx → F .f32)
    (B : S3x2x4x64x128.Idx → BitVec 32) (j0 j1 j2 j3 : Fin 8) :
    v.readCov (allPieces T B j0 j1 j2 j3 (Scf.trips k0_t1_loop.lb k0_t1_loop.ub k0_t1_loop.st))
      (Rect.unit ![0, 0] S2048x512.size inb_S2048x512_S2048x512_0_0).toLoadRect
    = fun y => pickSigned (bitAt B 0 y) (bitAt B 1 y) (bitAt B 2 y) (tabAt T j0 y) (tabAt T j1 y) (tabAt T j2 y) (tabAt T j3 y) := by
  have ht : Scf.trips k0_t1_loop.lb k0_t1_loop.ub k0_t1_loop.st = 4 := by decide
  rw [ht, View.readCov_eq_canon_ld _ _ _ (allPieces_cover T B j0 j1 j2 j3),
    View.ld_unit_zero (S := S2048x512) (by funext a; fin_cases a <;> rfl)]
  funext y
  exact View.canon_apply_of_pieces (fun y => pickSigned (bitAt B 0 y) (bitAt B 1 y) (bitAt B 2 y) (tabAt T j0 y)
    (tabAt T j1 y) (tabAt T j2 y) (tabAt T j3 y)) _ (allPieces_val T B j0 j1 j2 j3 4) y (allPieces_cover T B j0 j1 j2 j3 y)

section
variable (c : Dev nD) (arg3 : Memref sig .tc .vmem S3x256x512 .i8) (harg3 : arg3.IsWhole)
  (arg4 : Memref sig .tc .vmem S3x16x512 .bf16) (harg4 : arg4.IsWhole)
  (arg7 : Memref sig .tc .vmem S8x4x16x128 .f32) (arg8 : Memref sig .tc .vmem S3x2x4x64x128 .i32)
  (arg9 : Memref sig .tc .vmem S2048x512 .bf16)
  (x1 : Vec F S3x256x512 .i8) (x2 : Vec F S3x16x512 .bf16)

theorem weights_hi : arg9.view.readCov (allPieces
      (View.read (Elt F) arg7.view (arg7.view.writes (Elt F) arg7.view.junk (tblPieces (rdAlpha arg4 harg4 x2))))
      (View.read (Elt F) arg8.view (arg8.view.writes (Elt F) arg8.view.junk (bitPieces (rdWords arg3 harg3 x1))))
      0 1 2 3 (Scf.trips k0_t1_loop.lb k0_t1_loop.ub k0_t1_loop.st))
      (Rect.unit ![0, 0] S2048x512.size inb_S2048x512_S2048x512_0_0).toLoadRect = wHi x1 x2 := by
  rw [readCov_allPieces, read_tblPieces, read_bitPieces, rdAlpha_eq', rdWords_eq']
  rfl

theorem weights_lo : arg9.view.readCov (allPieces
      (View.read (Elt F) arg7.view (arg7.view.writes (Elt F) arg7.view.junk (tblPieces (rdAlpha arg4 harg4 x2))))
      (View.read (Elt F) arg8.view (arg8.view.writes (Elt F) arg8.view.junk (bitPieces (rdWords arg3 harg3 x1))))
      4 5 6 7 (Scf.trips k0_t1_loop.lb k0_t1_loop.ub k0_t1_loop.st))
      (Rect.unit ![0, 0] S2048x512.size inb_S2048x512_S2048x512_0_0).toLoadRect = wLo x1 x2 := by
  rw [readCov_allPieces, read_tblPieces, read_bitPieces, rdAlpha_eq', rdWords_eq']
  rfl

theorem hi_A : kernelRun0_A.sl.v493 c arg3 harg3 arg4 harg4 arg7 arg8 arg9 x1 x2 = wHi x1 x2 :=
  weights_hi arg3 harg3 arg4 harg4 arg7 arg8 arg9 x1 x2
theorem lo_A : kernelRun0_A.sl.v495 c arg3 harg3 arg4 harg4 arg7 arg8 arg9 x1 x2 = wLo x1 x2 :=
  weights_lo arg3 harg3 arg4 harg4 arg7 arg8 arg9 x1 x2
theorem hi_B : kernelRun0_B.sl.v493 c arg3 harg3 arg4 harg4 arg7 arg8 arg9 x1 x2 = wHi x1 x2 :=
  weights_hi arg3 harg3 arg4 harg4 arg7 arg8 arg9 x1 x2
theorem lo_B : kernelRun0_B.sl.v495 c arg3 harg3 arg4 harg4 arg7 arg8 arg9 x1 x2 = wLo x1 x2 :=
  weights_lo arg3 harg3 arg4 harg4 arg7 arg8 arg9 x1 x2
theorem hi_C : kernelRun0_C.sl.v493 c arg3 harg3 arg4 harg4 arg7 arg8 arg9 x1 x2 = wHi x1 x2 :=
  weights_hi arg3 harg3 arg4 harg4 arg7 arg8 arg9 x1 x2
theorem lo_C : kernelRun0_C.sl.v495 c arg3 harg3 arg4 harg4 arg7 arg8 arg9 x1 x2 = wLo x1 x2 :=
  weights_lo arg3 harg3 arg4 harg4 arg7 arg8 arg9 x1 x2

end

theorem off2 : (![0, 0] : Fin 2 → ℕ) = fun _ => 0 := by funext a; fin_cases a <;> rfl

theorem read_junk_canon {κ : Kind} {sp : Space} {s : Shape} {e : EltTy} (v : View sig κ sp s e)
    (L : List (View.Piece (Elt F) s e)) : v.read (Elt F) (v.writes (Elt F) v.junk L) = View.canon L :=
  funext fun y => View.read_writes_junk_apply_eq_canon v y L

section
variable (c : Dev nD) (i : grid0.Coords)
  (arg2 : Memref sig .tc .vmem S768x2048 .bf16) (harg2 : arg2.IsWhole)
  (arg3 : Memref sig .tc .vmem S3x256x512 .i8) (harg3 : arg3.IsWhole)
  (arg4 : Memref sig .tc .vmem S3x16x512 .bf16) (harg4 : arg4.IsWhole)
  (arg5 : Memref sig .tc .vmem S768x512 .bf16) (harg5 : arg5.IsWhole)
  (arg6 : Memref sig .tc .vmem S768x512 .f32) (harg6 : arg6.IsWhole)
  (arg7 : Memref sig .tc .vmem S8x4x16x128 .f32) (harg7 : arg7.IsWhole)
  (arg8 : Memref sig .tc .vmem S3x2x4x64x128 .i32) (harg8 : arg8.IsWhole)
  (arg9 : Memref sig .tc .vmem S2048x512 .bf16) (harg9 : arg9.IsWhole)
  (arg10 : Memref sig .tc .vmem S2048x512 .bf16) (harg10 : arg10.IsWhole)
  (x0 : Vec F S768x2048 .bf16) (x1 : Vec F S3x256x512 .i8) (x2 : Vec F S3x16x512 .bf16)

theorem sout_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 hc0 hc1 hc2 x0 x1 x2 = part x0 x1 x2 := by
  unfold sout0_A_0
  rw [read_junk_canon]
  unfold kernelRun0_A
  dsimp only
  rw [View.canon_unit_zero (S := S768x512) off2, hi_A, lo_A, View.readAt_eq_ld, harg2.read_unread,
    View.ld_unit_zero (S := S768x2048) off2]
  unfold k0_pay200
  exact shapeCast_id _ _

theorem sout_B (hc0 : ¬cond0_0 i) (hc1 : cond0_1 i) (hc2 : ¬cond0_2 i) (xs0 : Vec F S768x512 .f32) :
    sout0_B_0 c i arg2 harg2 arg3 harg3 arg4 harg4 arg5 harg5 arg6 harg6 arg7 harg7 arg8 harg8 arg9 harg9 arg10 harg10 hc0 hc1 hc2 x0 x1 x2 xs0 = addf xs0 (part x0 x1 x2) := by
  unfold sout0_B_0
  rw [read_junk_canon]
  unfold kernelRun0_B
  dsimp only
  unfold kernelRun0_B.sl.r_21
  rw [View.canon_unit_zero (S := S768x512) off2, hi_B, lo_B, View.readAt_eq_ld, harg2.read_unread,
    View.ld_unit_zero (S := S768x2048) off2, View.readAt_eq_ld, harg6.read_unread,
    View.ld_unit_zero (S := S768x512) off2]
  unfold k0_pay1
  exact shapeCast_id _ _

theorem out_C (hc0 : ¬cond0_0 i) (hc1 : cond0_1 i) (hc2 : cond0_2 i) (xs0 : Vec F S768x512 .f32) :
    out0_C_3 c i arg2 harg2 arg3 harg3 arg4 harg4 arg5 harg5 arg6 harg6 arg7 harg7 arg8 harg8 arg9 harg9 arg10 harg10 hc0 hc1 hc2 x0 x1 x2 xs0 = truncf .bf16 (addf xs0 (part x0 x1 x2)) bitsLt_bf16_f32 := by
  unfold out0_C_3
  rw [read_junk_canon]
  unfold kernelRun0_C
  dsimp only
  unfold kernelRun0_C.sl.v507 kernelRun0_C.sl.HS0_1 kernelRun0_C.sl.r_21
  rw [View.canon_unit_zero (S := S768x512) off2, View.readCov_unit_zero (S := S768x512) _ off2, hi_C, lo_C,
    View.readAt_eq_ld, harg2.read_unread,
    View.ld_unit_zero (S := S768x2048) off2, View.readAt_eq_ld, harg6.read_unread,
    View.ld_unit_zero (S := S768x512) off2]
  unfold k0_pay2 k0_pay1
  dsimp only
  rw [shapeCast_id]
  rfl

end

end Cert.KernelIdeal.Gen
end
-- ==== Proof.Spec.lean ====
module
public import Idealize.ShloMosaic.PureOps.Ideal.Laws
public import Idealize.ShloMosaic.Lib.Pointwise.Index
@[expose] public section
noncomputable section
namespace Cert.Spec
open Idealize.ShloMosaic

/-! The product both programs compute, over the reals: a row of `x` times a column of weights, where a weight is the sum
of three signed scales. -/

/-- Entry `κ` of row `i` of `x`. -/
def xr (x0 : (⟨3, ![768, 1, 18432]⟩ : Shape).Idx → EReal) (i : Fin 768) (κ : ℕ) : ℝ :=
  if h : κ < 18432 then (x0 (ix3 i (0 : Fin 1) ⟨κ, h⟩)).toReal else 0

/-- The scale of plane `q`, group `g`, column `o`. -/
def ar (x2 : (⟨3, ![3, 144, 7168]⟩ : Shape).Idx → EReal) (q : Fin 3) (g : ℕ) (o : Fin 7168) : ℝ :=
  if h : g < 144 then (x2 (ix3 q ⟨g, h⟩ o)).toReal else 0

/-- A sign, from its bit. -/
def pm (b : Bool) : ℝ := if b then 1 else -1

/-- The sign of plane `q` at row `κ`, column `o`: bit `κ % 8` of byte `κ / 8`. -/
def sg (x1 : (⟨3, ![3, 2304, 7168]⟩ : Shape).Idx → BitVec 8) (q : Fin 3) (κ : ℕ) (o : Fin 7168) : ℝ :=
  if h : κ / 8 < 2304 then pm ((x1 (ix3 q ⟨κ / 8, h⟩ o)).getLsbD (κ % 8)) else 0

/-- The weight at row `κ`, column `o`. -/
def wt (x1 : (⟨3, ![3, 2304, 7168]⟩ : Shape).Idx → BitVec 8) (x2 : (⟨3, ![3, 144, 7168]⟩ : Shape).Idx → EReal)
    (κ : ℕ) (o : Fin 7168) : ℝ :=
  ∑ q : Fin 3, sg x1 q κ o * ar x2 q (κ / 128) o

/-- The product. -/
def prod (x0 : (⟨3, ![768, 1, 18432]⟩ : Shape).Idx → EReal) (x1 : (⟨3, ![3, 2304, 7168]⟩ : Shape).Idx → BitVec 8)
    (x2 : (⟨3, ![3, 144, 7168]⟩ : Shape).Idx → EReal) (i : Fin 768) (o : Fin 7168) : ℝ :=
  ∑ κ ∈ Finset.range 18432, xr x0 i κ * wt x1 x2 κ o

/-- A sum over `a * b` rows taken in `a` stretches of `b`. -/
theorem sum_stretches (f : ℕ → ℝ) (a b : ℕ) :
    ∑ κ ∈ Finset.range (a * b), f κ = ∑ k ∈ Finset.range a, ∑ r ∈ Finset.range b, f (b * k + r) := by
  induction a with
  | zero => simp
  | succ a ih => rw [Nat.succ_mul, Finset.sum_range_add, ih, Finset.sum_range_succ, Nat.mul_comm a b]

/-- A finite sum of reals, read in the extended reals. -/
theorem coe_sum {ι : Type*} (s : Finset ι) (f : ι → ℝ) : ((∑ k ∈ s, f k : ℝ) : EReal) = ∑ k ∈ s, ((f k : ℝ) : EReal) :=
  map_sum (⟨⟨Real.toEReal, EReal.coe_zero⟩, EReal.coe_add⟩ : ℝ →+ EReal) f s

end Cert.Spec
end
-- ==== Proof.PI.Chain.lean ====
module
public import proofs.«01_k».proof.Proof.PI.Point
public import proofs.«01_k».proof.Proof.Spec
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable (m : (ℓ : Loc nD τ sig) → Buf (Elt Ideal) ℓ) (c : Dev nD)

/-! The accumulator over the grid, at the ideal instance: after each point it holds the sum of the products of its column
block's points so far. -/

/-- The product point `n` adds. -/
def Pn (n : ℕ) : FVec Ideal S768x512 .f32 :=
  if h : n < cfg0.N then part (iblk m c 0 ⟨n, h⟩) (iblk m c 1 ⟨n, h⟩) (iblk m c 2 ⟨n, h⟩) else fun _ => (0 : EReal)

theorem Pn_pos (t : Fin cfg0.N) : Pn m c t.val = part (iblk m c 0 t) (iblk m c 1 t) (iblk m c 2 t) := dif_pos t.isLt

theorem acc_A (t : Fin cfg0.N) (h0 : t.val % 9 = 0) (h1 : ¬1 ≤ t.val % 9) (h2 : ¬t.val % 9 = 8) :
    (outsAt0 m c t.val t.isLt).2 = Pn m c t.val := by
  rw [Pn_pos]
  rw [outsAt0_A m c t h0 h1 h2]
  dsimp only
  rw [sout_A]

theorem acc_B (t : Fin cfg0.N) (h0 : ¬t.val % 9 = 0) (h1 : 1 ≤ t.val % 9) (h2 : ¬t.val % 9 = 8) :
    (outsAt0 m c t.val t.isLt).2 = addf (outsAt0 m c (t.val - 1) (Nat.lt_of_le_of_lt (Nat.sub_le _ _) t.isLt)).2 (Pn m c t.val) := by
  rw [Pn_pos]
  rw [outsAt0_B m c t h0 h1 h2]
  dsimp only
  rw [sout_B]

theorem acc_C (t : Fin cfg0.N) (h0 : ¬t.val % 9 = 0) (h1 : 1 ≤ t.val % 9) (h2 : t.val % 9 = 8) :
    (outsAt0 m c t.val t.isLt).1 = truncf .bf16 (addf (outsAt0 m c (t.val - 1) (Nat.lt_of_le_of_lt (Nat.sub_le _ _) t.isLt)).2 (Pn m c t.val)) bitsLt_bf16_f32 := by
  rw [Pn_pos]
  rw [outsAt0_C m c t h0 h1 h2]
  dsimp only
  rw [out_C]

/-- The accumulator after a point that is not the last of its column block. -/
theorem acc_sum (y : S768x512.Idx) : ∀ (n : ℕ) (h : n < cfg0.N), n % 9 ≠ 8 →
    ((outsAt0 m c n h).2 y : EReal) = ∑ k ∈ Finset.range (n % 9 + 1), (Pn m c (9 * (n / 9) + k) y : EReal) := by
  intro n
  induction n with
  | zero =>
    intro h h8
    rw [acc_A m c ⟨0, h⟩ rfl (by show ¬1 ≤ 0 % 9; decide) (by show ¬0 % 9 = 8; decide)]
    simp
  | succ n ih =>
    intro h h8
    by_cases h0 : (n + 1) % 9 = 0
    · rw [acc_A m c ⟨n + 1, h⟩ h0 (by show ¬1 ≤ (n + 1) % 9; omega) h8, h0, Finset.sum_range_one]
      congr 2
      show n + 1 = _
      omega
    · rw [acc_B m c ⟨n + 1, h⟩ h0 (by show 1 ≤ (n + 1) % 9; omega) h8]
      have e1 : (n + 1) % 9 = n % 9 + 1 := by omega
      have e2 : (n + 1) / 9 = n / 9 := by omega
      show ((outsAt0 m c n _).2 y : EReal) + Pn m c (n + 1) y = _
      rw [ih (Nat.lt_of_succ_lt h) (by omega), e1, e2, Finset.sum_range_succ _ (n % 9 + 1),
        show 9 * (n / 9) + (n % 9 + 1) = n + 1 by omega]

/-- What the last point of a column block leaves in the output block. -/
theorem out_sum (y : S768x512.Idx) (t : Fin cfg0.N) (h8 : t.val % 9 = 8) :
    ((outsAt0 m c t.val t.isLt).1 y : EReal) = ∑ k ∈ Finset.range 9, (Pn m c (9 * (t.val / 9) + k) y : EReal) := by
  rw [acc_C m c t (by omega) (by omega) h8]
  show ((outsAt0 m c (t.val - 1) _).2 y : EReal) + Pn m c t.val y = _
  rw [acc_sum m c y (t.val - 1) _ (by omega), show (t.val - 1) % 9 + 1 = 8 by omega, show (t.val - 1) / 9 = t.val / 9 by omega,
    Finset.sum_range_succ _ 8, show 9 * (t.val / 9) + 8 = t.val by omega]

/-! The tiles a point reads, by entry. -/

theorem V_main_v0 : V m c main_v0 = shapeCast S768x18432 (m ((c : Thread nD τ).loc main_arg0)) shapeCasts_S768x1x18432_S768x18432 := by
  unfold V hostOps0
  after_results
  rfl

theorem index_x : ∀ t : Fin grid0.N, win0_0.index t 0 = 0 ∧ win0_0.index t 1 = t.val % 9 := by decide +kernel
theorem index_w : ∀ t : Fin grid0.N, win0_1.index t 0 = 0 ∧ win0_1.index t 1 = t.val % 9 ∧ win0_1.index t 2 = t.val / 9 := by decide +kernel
theorem index_a : ∀ t : Fin grid0.N, win0_2.index t 0 = 0 ∧ win0_2.index t 1 = t.val % 9 ∧ win0_2.index t 2 = t.val / 9 := by decide +kernel
theorem index_o : ∀ t : Fin grid0.N, win0_3.index t 0 = 0 ∧ win0_3.index t 1 = t.val / 9 := by decide +kernel

theorem lt_N (t : Fin cfg0.N) : t.val < 126 := lt_of_lt_of_eq t.isLt (show cfg0.N = 126 from N_0)

theorem blk_x (t : Fin cfg0.N) (i : Fin 768) (r : Fin 2048) :
    (iblk m c 0 t : Vec Ideal S768x2048 .bf16) (ix2 i r)
    = m ((c : Thread nD τ).loc main_arg0) (ix3 i (0 : Fin 1) ⟨2048 * (t.val % 9) + r.val, by have := r.isLt; omega⟩) := by
  unfold iblk
  rw [View.read_apply]
  show V m c main_v0 _ = _
  rw [V_main_v0]
  have hi := index_x t
  refine shapeCast_apply _ _ _ _ ?_
  show ((S768x1x18432.rowMajor (ix3 i (0 : Fin 1) ⟨2048 * (t.val % 9) + r.val, _⟩)) : ℕ) = _
  rw [Shape.rowMajor_val_three, Shape.rowMajor_val_two]
  show (i.val * 1 + 0) * 18432 + (2048 * (t.val % 9) + r.val) = (win0_0.index t 0 * 768 + 1 * i.val) * 18432 + (win0_0.index t 1 * 2048 + 1 * r.val)
  rw [hi.1, hi.2]
  omega

theorem blk_w (t : Fin cfg0.N) (q : Fin 3) (b : Fin 256) (l : Fin 512) :
    (iblk m c 1 t : Vec Ideal S3x256x512 .i8) (ix3 q b l)
    = m ((c : Thread nD τ).loc main_arg1) (ix3 q ⟨256 * (t.val % 9) + b.val, by have := b.isLt; omega⟩
        ⟨512 * (t.val / 9) + l.val, by have := l.isLt; have := lt_N t; omega⟩) := by
  unfold iblk
  rw [View.read_apply]
  show V m c main_arg1 _ = _
  rw [V_main_arg1]
  have hi := index_w t
  congr 1
  funext a
  apply Fin.ext
  match a with
  | ⟨0, _⟩ => show win0_1.index t 0 * 3 + 1 * q.val = q.val; rw [hi.1]; omega
  | ⟨1, _⟩ => show win0_1.index t 1 * 256 + 1 * b.val = 256 * (t.val % 9) + b.val; rw [hi.2.1]; omega
  | ⟨2, _⟩ => show win0_1.index t 2 * 512 + 1 * l.val = 512 * (t.val / 9) + l.val; rw [hi.2.2]; omega

theorem blk_a (t : Fin cfg0.N) (q : Fin 3) (g : Fin 16) (l : Fin 512) :
    (iblk m c 2 t : Vec Ideal S3x16x512 .bf16) (ix3 q g l)
    = m ((c : Thread nD τ).loc main_arg2) (ix3 q ⟨16 * (t.val % 9) + g.val, by have := g.isLt; omega⟩
        ⟨512 * (t.val / 9) + l.val, by have := l.isLt; have := lt_N t; omega⟩) := by
  unfold iblk
  rw [View.read_apply]
  show V m c main_arg2 _ = _
  rw [V_main_arg2]
  have hi := index_a t
  congr 1
  funext a
  apply Fin.ext
  match a with
  | ⟨0, _⟩ => show win0_2.index t 0 * 3 + 1 * q.val = q.val; rw [hi.1]; omega
  | ⟨1, _⟩ => show win0_2.index t 1 * 16 + 1 * g.val = 16 * (t.val % 9) + g.val; rw [hi.2.1]; omega
  | ⟨2, _⟩ => show win0_2.index t 2 * 512 + 1 * l.val = 512 * (t.val / 9) + l.val; rw [hi.2.2]; omega

end Cert.KernelIdeal.Gen
end
-- ==== Proof.PI.Weights.lean ====
module
public import proofs.«01_k».proof.Proof.PI.Point
public import proofs.«01_k».proof.Proof.Spec
public import Idealize.ShloMosaic.Lib.MatmulPlain
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The expanded weights at the ideal instance: the high part is the weight, the low part is zero. -/

open Cert.Spec (pm coe_sum)

/-- Word `a` of a tile's column, read at bit `q`. -/
theorem wordV_bit (x1 : Vec Ideal S3x256x512 .i8) (b : Fin 3) (c : Fin 4) (a : Fin 64) (l : Fin 128) (q : ℕ) (hq : q < 32) :
    (wordV (F := Ideal) x1 b c (ix2 a l)).getLsbD q
    = (x1 (ix3 b ⟨4 * a.val + q / 8, by have := a.isLt; omega⟩ ⟨128 * c.val + l.val, by have := c.isLt; have := l.isLt; omega⟩)).getLsbD (q % 8) := by
  unfold wordV
  exact bitcast_8_32_getLsbD_ix2 (bytesOf (F := Ideal) x1 b c) bitcasts_S256x128_w8_S64x128_w32 a l q hq _ rfl

theorem half_lo (w : BitVec 32) (r : Fin 32) (h : r.val / 16 = 0) :
    ((w &&& 65535#32) ||| (w <<< 16)).getLsbD (16 * (r.val % 2) + r.val % 16) = w.getLsbD r.val := by
  fin_cases r <;> first | (exfalso; revert h; decide) | simp [BitVec.getLsbD_or, BitVec.getLsbD_and, BitVec.getLsbD_shiftLeft]

theorem half_hi (w : BitVec 32) (r : Fin 32) (h : r.val / 16 = 1) :
    ((w &&& 4294901760#32) ||| (w >>> 16)).getLsbD (16 * (r.val % 2) + r.val % 16) = w.getLsbD r.val := by
  fin_cases r <;> first | (exfalso; revert h; decide) | simp [BitVec.getLsbD_or, BitVec.getLsbD_and, BitVec.getLsbD_ushiftRight]

/-- A half word spread over both halves, read at a bit. -/
theorem halfTile_bit (u : IVec S64x128 32) (z : S64x128.Idx) (r : ℕ) (h : Fin 2) (hh : h.val = r / 16 % 2) :
    (halfTile h u z).getLsbD (16 * (r % 2) + r % 16) = (u z).getLsbD (r % 32) := by
  have e1 : r % 2 = (r % 32) % 2 := by omega
  have e2 : r % 16 = (r % 32) % 16 := by omega
  have hr : r % 32 < 32 := by omega
  rw [e1, e2]
  match h, hh with
  | 0, hh => exact half_lo (u z) ⟨r % 32, hr⟩ (by show r % 32 / 16 = 0; have : 0 = r / 16 % 2 := hh; omega)
  | 1, hh => exact half_hi (u z) ⟨r % 32, hr⟩ (by show r % 32 / 16 = 1; have : 1 = r / 16 % 2 := hh; omega)

/-- The sign bit of plane `q` at row `r`, column `l` of a tile. -/
def sgT (x1 : Vec Ideal S3x256x512 .i8) (q : Fin 3) (r : Fin 2048) (l : Fin 512) : Bool :=
  (x1 (ix3 q ⟨r.val / 8, by have := r.isLt; omega⟩ l)).getLsbD (r.val % 8)

theorem word_sgT (x1 : Vec Ideal S3x256x512 .i8) (q : Fin 3) (r : Fin 2048) (l : Fin 512) :
    (wordV (F := Ideal) x1 q ⟨l.val / 128, by have := l.isLt; omega⟩
      (ix2 ⟨r.val / 32, by have := r.isLt; omega⟩ ⟨l.val % 128, by omega⟩)).getLsbD (r.val % 32) = sgT x1 q r l := by
  rw [wordV_bit x1 q _ _ _ _ (by omega)]
  unfold sgT
  have e : r.val % 32 % 8 = r.val % 8 := by omega
  rw [e]
  congr 2
  congr 1
  · exact Fin.ext (show 4 * (r.val / 32) + r.val % 32 / 8 = r.val / 8 by omega)
  · exact Fin.ext (show 128 * (l.val / 128) + l.val % 128 = l.val by omega)

theorem ones_bit (k : ℕ) (hk : k < 32) : (4294967295#32).getLsbD k = true := by
  rw [show (4294967295#32) = BitVec.allOnes 32 from rfl, BitVec.getLsbD_allOnes]
  exact decide_eq_true hk

/-- The word of plane `b` read at a row: the sign of plane 0, or where the signs of two planes agree. -/
theorem bitAt_plane (x1 : Vec Ideal S3x256x512 .i8) (b : Fin 3) (r : Fin 2048) (l : Fin 512) :
    bitAt (bitsV (wordV (F := Ideal) x1)) b (ix2 r l) = BitVec.ofBool
      (match b with
        | 0 => sgT x1 0 r l
        | 1 => !(sgT x1 0 r l ^^ sgT x1 1 r l)
        | 2 => !(sgT x1 0 r l ^^ sgT x1 2 r l)) := by
  refine congrArg BitVec.ofBool ?_
  show (halfTile ⟨r.val / 16 % 2, _⟩ (planeTile b (wordV (F := Ideal) x1 0 ⟨l.val / 128, _⟩) (wordV (F := Ideal) x1 1 ⟨l.val / 128, _⟩)
    (wordV (F := Ideal) x1 2 ⟨l.val / 128, _⟩)) (ix2 ⟨r.val / 32, _⟩ ⟨l.val % 128, _⟩)).getLsbD (16 * (r.val % 2) + r.val % 16) = _
  refine (halfTile_bit _ _ r.val _ rfl).trans ?_
  match b with
  | 0 => exact word_sgT x1 0 r l
  | 1 =>
    show ((wordV (F := Ideal) x1 0 _ _ ^^^ wordV (F := Ideal) x1 1 _ _) ^^^ 4294967295#32).getLsbD (r.val % 32) = _
    rw [BitVec.getLsbD_xor, BitVec.getLsbD_xor, ones_bit _ (by omega), Bool.xor_true]
    exact congrArg not (congrArg₂ xor (word_sgT x1 0 r l) (word_sgT x1 1 r l))
  | 2 =>
    show ((wordV (F := Ideal) x1 0 _ _ ^^^ wordV (F := Ideal) x1 2 _ _) ^^^ 4294967295#32).getLsbD (r.val % 32) = _
    rw [BitVec.getLsbD_xor, BitVec.getLsbD_xor, ones_bit _ (by omega), Bool.xor_true]
    exact congrArg not (congrArg₂ xor (word_sgT x1 0 r l) (word_sgT x1 2 r l))

/-- The pattern of the factor that flips the sign denotes minus one. -/
theorem neg_one_bf16 : (Scalar.ofBits .bf16 0xBF80#16 : Ideal .bf16) = ((-1 : ℝ) : EReal) := by
  show Ideal.ofBits .bf16 0xBF80#16 = _
  simp [Ideal.ofBits, Ideal.ieee]
  norm_num
  rw [← EReal.coe_mul]
  norm_num

/-- The choice of a table by the agreement bits, with the sign of plane 0 in front, is the weight. -/
theorem pick_hi (b0 b1 b2 : Bool) (a0 a1 a2 : ℝ) :
    (pickSigned (F := Ideal) (BitVec.ofBool b0) (BitVec.ofBool (!(b0 ^^ b1))) (BitVec.ofBool (!(b0 ^^ b2)))
      (((a0 + a1) + a2 : ℝ) : EReal) (((a0 + a1) - a2 : ℝ) : EReal) (((a0 - a1) + a2 : ℝ) : EReal) (((a0 - a1) - a2 : ℝ) : EReal) : EReal)
    = ((pm b0 * a0 + pm b1 * a1 + pm b2 * a2 : ℝ) : EReal) := by
  have neg : ∀ x : ℝ, (FloatOps.mulf (F := Ideal) (φ := .bf16) ((x : ℝ) : EReal) ((-1 : ℝ) : EReal) : EReal) = ((-x : ℝ) : EReal) := fun x => by
    show (x : EReal) * ((-1 : ℝ) : EReal) = _
    rw [← EReal.coe_mul, mul_neg_one]
  unfold pickSigned
  rw [neg_one_bf16]
  cases b0 <;> cases b1 <;> cases b2 <;> first
    | exact (neg _).trans (congrArg Real.toEReal (by simp only [pm, if_true, Bool.false_eq_true, if_false]; ring))
    | exact congrArg Real.toEReal (by simp only [pm, if_true, Bool.false_eq_true, if_false]; ring)

/-- Where the four low tables are zero, so is the low part, whatever the bits. -/
theorem pick_lo (m0 m1 m2 : BitVec 1) : (pickSigned (F := Ideal) m0 m1 m2 (0 : EReal) (0 : EReal) (0 : EReal) (0 : EReal) : EReal) = 0 := by
  unfold pickSigned Scalar.select
  rw [neg_one_bf16]
  simp only [ite_self]
  show (if _ then (0 : EReal) else (0 : EReal) * ((-1 : ℝ) : EReal)) = 0
  simp

section
variable (x2 : Vec Ideal S3x16x512 .bf16) (h2 : ∀ y, (x2 y : EReal) = (((x2 y : EReal)).toReal : EReal))
  (r : Fin 2048) (l : Fin 512)

/-- The scale of plane `q` at row `r`, column `l` of a tile. -/
def aT (q : Fin 3) : ℝ := (x2 (ix3 q ⟨r.val / 128, by have := r.isLt; omega⟩ l) : EReal).toReal

/-- The same as the tables hold it. -/
def av (q : Fin 3) : EReal := alphaAt x2 q ⟨l.val / 128, by have := l.isLt; omega⟩ ⟨r.val / 128, by have := r.isLt; omega⟩ ⟨l.val % 128, by omega⟩

include h2 in
theorem av_eq (q : Fin 3) : av x2 r l q = ((aT x2 r l q : ℝ) : EReal) := by
  unfold av aT
  rw [← h2]
  show (x2 _ : EReal) = x2 _
  congr 2
  exact Fin.ext (show 128 * (l.val / 128) + l.val % 128 = l.val by omega)

theorem tab_0 : (tabAt (tblV (alphaV x2)) 0 (ix2 r l) : EReal) = (av x2 r l 0 + av x2 r l 1) + av x2 r l 2 := rfl
theorem tab_1 : (tabAt (tblV (alphaV x2)) 1 (ix2 r l) : EReal) = (av x2 r l 0 + av x2 r l 1) - av x2 r l 2 := rfl
theorem tab_2 : (tabAt (tblV (alphaV x2)) 2 (ix2 r l) : EReal) = (av x2 r l 0 - av x2 r l 1) + av x2 r l 2 := rfl
theorem tab_3 : (tabAt (tblV (alphaV x2)) 3 (ix2 r l) : EReal) = (av x2 r l 0 - av x2 r l 1) - av x2 r l 2 := rfl
theorem tab_4 : (tabAt (tblV (alphaV x2)) 4 (ix2 r l) : EReal)
    = ((av x2 r l 0 + av x2 r l 1) + av x2 r l 2) - ((av x2 r l 0 + av x2 r l 1) + av x2 r l 2) := rfl
theorem tab_5 : (tabAt (tblV (alphaV x2)) 5 (ix2 r l) : EReal)
    = ((av x2 r l 0 + av x2 r l 1) - av x2 r l 2) - ((av x2 r l 0 + av x2 r l 1) - av x2 r l 2) := rfl
theorem tab_6 : (tabAt (tblV (alphaV x2)) 6 (ix2 r l) : EReal)
    = ((av x2 r l 0 - av x2 r l 1) + av x2 r l 2) - ((av x2 r l 0 - av x2 r l 1) + av x2 r l 2) := rfl
theorem tab_7 : (tabAt (tblV (alphaV x2)) 7 (ix2 r l) : EReal)
    = ((av x2 r l 0 - av x2 r l 1) - av x2 r l 2) - ((av x2 r l 0 - av x2 r l 1) - av x2 r l 2) := rfl

include h2 in
/-- The high part is the weight. -/
theorem wHi_apply (x1 : Vec Ideal S3x256x512 .i8) : (wHi x1 x2 (ix2 r l) : EReal)
    = ((pm (sgT x1 0 r l) * aT x2 r l 0 + pm (sgT x1 1 r l) * aT x2 r l 1 + pm (sgT x1 2 r l) * aT x2 r l 2 : ℝ) : EReal) := by
  unfold wHi expHi
  rw [bitAt_plane, bitAt_plane, bitAt_plane, tab_0, tab_1, tab_2, tab_3, av_eq x2 h2, av_eq x2 h2, av_eq x2 h2]
  simp only [← EReal.coe_add, ← EReal.coe_sub]
  exact pick_hi _ _ _ _ _ _

include h2 in
/-- The low part is zero. -/
theorem wLo_apply (x1 : Vec Ideal S3x256x512 .i8) : (wLo x1 x2 (ix2 r l) : EReal) = 0 := by
  unfold wLo expLo
  rw [tab_4, tab_5, tab_6, tab_7, av_eq x2 h2, av_eq x2 h2, av_eq x2 h2]
  simp only [← EReal.coe_add, ← EReal.coe_sub, sub_self, EReal.coe_zero]
  exact pick_lo _ _ _
end

/-- A point's product, by entry. -/
theorem part_apply (x0 : Vec Ideal S768x2048 .bf16) (x1 : Vec Ideal S3x256x512 .i8) (x2 : Vec Ideal S3x16x512 .bf16)
    (h0 : ∀ y, (x0 y : EReal) = (((x0 y : EReal)).toReal : EReal)) (h2 : ∀ y, (x2 y : EReal) = (((x2 y : EReal)).toReal : EReal))
    (i : Fin 768) (l : Fin 512) : (part x0 x1 x2 (ix2 i l) : EReal)
    = ((∑ r : Fin 2048, (x0 (ix2 i r) : EReal).toReal
        * (pm (sgT x1 0 r l) * aT x2 r l 0 + pm (sgT x1 1 r l) * aT x2 r l 1 + pm (sgT x1 2 r l) * aT x2 r l 2) : ℝ) : EReal) := by
  unfold part k0_pay199
  rw [shapeCast_id]
  show ((matmul (φ₁ := .bf16) (φ₂ := .bf16) dot_S768x2048_S2048x512_S768x512_1_0_0_1_n_n none x0 (wHi x1 x2)
      (constant S768x512 .f32 0x00000000#32) : FVec Ideal S768x512 .f32) (ix2 i l) : EReal)
    + (matmul (φ₁ := .bf16) (φ₂ := .bf16) dot_S768x2048_S2048x512_S768x512_1_0_0_1_n_n none x0 (wLo x1 x2)
      (constant S768x512 .f32 0x00000000#32) : FVec Ideal S768x512 .f32) (ix2 i l) = _
  have hm : ∀ w : Vec Ideal S2048x512 .bf16, ((matmul (φ₁ := .bf16) (φ₂ := .bf16) dot_S768x2048_S2048x512_S768x512_1_0_0_1_n_n none x0 w
      (constant S768x512 .f32 0x00000000#32) : FVec Ideal S768x512 .f32) (ix2 i l) : EReal)
      = (constant (F := Ideal) S768x512 .f32 0x00000000#32 (ix2 i l) : EReal) + ∑ k : Fin 2048, (x0 (ix2 i k) : EReal) * (w (ix2 k l) : EReal) :=
    fun w => Ideal.matmul_plain_apply none x0 w (constant S768x512 .f32 0x00000000#32) i l
  rw [hm, hm]
  have z : (constant (F := Ideal) S768x512 .f32 0x00000000#32 (ix2 i l) : EReal) = 0 := Ideal.ofBits_zero_f32
  rw [z, zero_add, zero_add, coe_sum]
  have lo : ∑ k : Fin 2048, (x0 (ix2 i k) : EReal) * (wLo x1 x2 (ix2 k l) : EReal) = 0 :=
    Finset.sum_eq_zero fun k _ => by rw [wLo_apply x2 h2, mul_zero]
  refine (congrArg (_ + ·) lo).trans ?_
  rw [add_zero]
  refine Finset.sum_congr rfl fun k _ => ?_
  rw [wHi_apply x2 h2, EReal.coe_mul, ← h0]

end Cert.KernelIdeal.Gen
end
-- ==== Proof.PI.Value.lean ====
module
public import proofs.«01_k».proof.Proof.PI.Chain
public import proofs.«01_k».proof.Proof.PI.Weights
public import Idealize.ShloMosaic.Lib.Claim
@[expose] public section
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! The kernel's result array at the ideal instance: the product of `Cert.Spec`. -/

open Cert.Spec (pm xr ar sg wt coe_sum sum_stretches)

section
variable (m : (ℓ : Loc nD τ sig) → Buf (Elt Ideal) ℓ) (c : Dev nD)

/-- The arguments, as arrays over the extended reals. -/
def X0 : S768x1x18432.Idx → EReal := m ((c : Thread nD τ).loc main_arg0)
def X1 : S3x2304x7168.Idx → BitVec 8 := m ((c : Thread nD τ).loc main_arg1)
def X2 : S3x144x7168.Idx → EReal := m ((c : Thread nD τ).loc main_arg2)

/-- The result array. -/
def result : S768x7168.Idx → EReal := fun y => ((Cert.Spec.prod (X0 m c) (X1 m c) (X2 m c) (y 0) (y 1) : ℝ) : EReal)

/-- The column of the result that lane `l` of a point computes. -/
def col (t : Fin cfg0.N) (l : Fin 512) : Fin 7168 := ⟨512 * (t.val / 9) + l.val, by have := l.isLt; have := lt_N t; omega⟩

theorem sg_blk (t : Fin cfg0.N) (q : Fin 3) (r : Fin 2048) (l : Fin 512) :
    pm (sgT (iblk m c 1 t) q r l) = sg (X1 m c) q (2048 * (t.val % 9) + r.val) (col t l) := by
  have hr := r.isLt
  unfold sgT
  rw [blk_w]
  unfold sg
  rw [dif_pos (show (2048 * (t.val % 9) + r.val) / 8 < 2304 by omega)]
  have e1 : (⟨(2048 * (t.val % 9) + r.val) / 8, by omega⟩ : Fin 2304) = ⟨256 * (t.val % 9) + r.val / 8, by omega⟩ :=
    Fin.ext (by show (2048 * (t.val % 9) + r.val) / 8 = 256 * (t.val % 9) + r.val / 8; omega)
  have e2 : (2048 * (t.val % 9) + r.val) % 8 = r.val % 8 := by omega
  rw [e1, e2]
  rfl

theorem ar_blk (t : Fin cfg0.N) (q : Fin 3) (r : Fin 2048) (l : Fin 512) :
    aT (iblk m c 2 t) r l q = ar (X2 m c) q ((2048 * (t.val % 9) + r.val) / 128) (col t l) := by
  have hr := r.isLt
  unfold aT
  rw [blk_a]
  unfold ar
  rw [dif_pos (show (2048 * (t.val % 9) + r.val) / 128 < 144 by omega)]
  have e1 : (⟨(2048 * (t.val % 9) + r.val) / 128, by omega⟩ : Fin 144) = ⟨16 * (t.val % 9) + r.val / 128, by omega⟩ :=
    Fin.ext (by show (2048 * (t.val % 9) + r.val) / 128 = 16 * (t.val % 9) + r.val / 128; omega)
  rw [e1]
  rfl

variable (h0 : ∀ y, X0 m c y = ((X0 m c y).toReal : EReal)) (h2 : ∀ y, X2 m c y = ((X2 m c y).toReal : EReal))

include h0 h2 in
/-- A point's product, by entry: 2048 rows of the whole product. -/
theorem Pn_apply (t : Fin cfg0.N) (i : Fin 768) (l : Fin 512) : (Pn m c t.val (ix2 i l) : EReal)
    = ((∑ r ∈ Finset.range 2048, xr (X0 m c) i (2048 * (t.val % 9) + r)
        * wt (X1 m c) (X2 m c) (2048 * (t.val % 9) + r) (col t l) : ℝ) : EReal) := by
  have hx : ∀ y : S768x2048.Idx, ((iblk m c 0 t : Vec Ideal S768x2048 .bf16) y : EReal)
      = ((((iblk m c 0 t : Vec Ideal S768x2048 .bf16) y : EReal)).toReal : EReal) := fun y => by
    idx_vars y
    rw [blk_x]
    exact h0 _
  have ha : ∀ y : S3x16x512.Idx, ((iblk m c 2 t : Vec Ideal S3x16x512 .bf16) y : EReal)
      = ((((iblk m c 2 t : Vec Ideal S3x16x512 .bf16) y : EReal)).toReal : EReal) := fun y => by
    idx_vars y
    rw [blk_a]
    exact h2 _
  rw [Pn_pos]
  refine (part_apply _ _ _ hx ha i l).trans (congrArg Real.toEReal ?_)
  rw [Finset.sum_range]
  refine Finset.sum_congr rfl fun r _ => ?_
  have hr := r.isLt
  rw [blk_x, sg_blk, sg_blk, sg_blk, ar_blk, ar_blk, ar_blk]
  unfold wt xr
  rw [dif_pos (show 2048 * (t.val % 9) + r.val < 18432 by omega), Fin.sum_univ_three]
  rfl

include h0 h2 in
/-- The output block after its column block's last point. -/
theorem out_apply (t : Fin cfg0.N) (h8 : t.val % 9 = 8) (i : Fin 768) (l : Fin 512) :
    ((outsAt0 m c t.val t.isLt).1 (ix2 i l) : EReal) = result m c (ix2 i (col t l)) := by
  have ht := lt_N t
  rw [out_sum m c _ t h8]
  have hk : ∀ k ∈ Finset.range 9, (Pn m c (9 * (t.val / 9) + k) (ix2 i l) : EReal)
      = ((∑ r ∈ Finset.range 2048, xr (X0 m c) i (2048 * k + r) * wt (X1 m c) (X2 m c) (2048 * k + r) (col t l) : ℝ) : EReal) := by
    intro k hk
    have hk9 := Finset.mem_range.mp hk
    have h := Pn_apply m c h0 h2 ⟨9 * (t.val / 9) + k, lt_of_lt_of_eq (show 9 * (t.val / 9) + k < 126 by omega) N_0.symm⟩ i l
    have e1 : (9 * (t.val / 9) + k) % 9 = k := by omega
    have e2 : col ⟨9 * (t.val / 9) + k, lt_of_lt_of_eq (show 9 * (t.val / 9) + k < 126 by omega) N_0.symm⟩ l = col t l :=
      Fin.ext (by show 512 * ((9 * (t.val / 9) + k) / 9) + l.val = 512 * (t.val / 9) + l.val; omega)
    rw [e2] at h
    dsimp only at h
    rw [e1] at h
    exact h
  rw [Finset.sum_congr rfl hk, ← coe_sum]
  refine congrArg Real.toEReal ?_
  exact (sum_stretches (fun κ => xr (X0 m c) i κ * wt (X1 m c) (X2 m c) κ (col t l)) 9 2048).symm

include h0 h2 in
theorem flushed_eq (t : Fin cfg0.N) (hf : (cfg0.win 3).flush t = true) :
    (dats m 0 c).flushed 3 t = ((cfg0.win 3).blk t).view.read (Elt Ideal) (result m c) := by
  have h8 := (flush0_3 t).mp hf
  have hi := index_o t
  show (cfg0.win 3).cut (grid0.coords t) ((dats m 0 c).after 3 t) = _
  rw [after0_3]
  have key : ∀ y : S768x512.Idx, ((outsAt0 m c t.val t.isLt).1 y : EReal) = result m c (((cfg0.win 3).blk t).view.emb y) := by
    intro y
    idx_vars y
    rw [out_apply m c h0 h2 t h8]
    congr 1
    funext a
    apply Fin.ext
    match a with
    | ⟨0, _⟩ => show y0.val = win0_3.index t 0 * 768 + 1 * y0.val; rw [hi.1]; omega
    | ⟨1, _⟩ => show 512 * (t.val / 9) + y1.val = win0_3.index t 1 * 512 + 1 * y1.val; rw [hi.2]; omega
  funext y
  rw [View.read_apply]
  exact key y

include h0 h2 in
/-- The result array at the end of the run. -/
theorem final_o : (dats m 0 c).arrAt 3 cfg0.N = result m c :=
  (dats m 0 c).arrAt_eq_of_cover 3 (result m c) (flushed_eq m c h0 h2) fun i => by
    have b0 : (i 0 : Nat) < 768 := (i 0).isLt
    have b1 : (i 1 : Nat) < 7168 := (i 1).isLt
    have hN : cfg0.N = 126 := N_0
    refine ⟨⟨9 * ((i 1 : Nat) / 512) + 8, by omega⟩, (flush0_3 _).mpr (by show (9 * ((i 1 : Nat) / 512) + 8) % 9 = 8; omega), ?_⟩
    generalize ht : (⟨9 * ((i 1 : Nat) / 512) + 8, by omega⟩ : Fin cfg0.N) = t
    have hv : t.val = 9 * ((i 1 : Nat) / 512) + 8 := by rw [← ht]
    have hi := index_o t
    show i ∈ ((View.whole main_v1).slice (win0_3.rect t)).set
    rw [View.set_slice_whole, Rect.mem_set_unit]
    intro a
    match a with
    | ⟨0, _⟩ =>
      show win0_3.index t 0 * 768 ≤ (i 0 : Nat) ∧ (i 0 : Nat) < win0_3.index t 0 * 768 + 768
      rw [hi.1]; omega
    | ⟨1, _⟩ =>
      show win0_3.index t 1 * 512 ≤ (i 1 : Nat) ∧ (i 1 : Nat) < win0_3.index t 1 * 512 + 512
      rw [hi.2]; omega
end

/-- The run, read: every result array holds the product and the arguments are as they were. -/
theorem run_value (m : (ℓ : Loc nD τ sig) → Buf (Elt Ideal) ℓ) (ρ : Dev nD → PrngReg)
    (h0 : ∀ c y, X0 m c y = ((X0 m c y).toReal : EReal)) (h2 : ∀ c y, X2 m c y = ((X2 m c y).toReal : EReal)) :
    θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 3).trans (final_o m c (h0 c) (h2 c)), h.2 c⟩)
    (θ_run_and (run_main m ρ) (unchanged m ρ))

end Cert.KernelIdeal.Gen
end
-- ==== Proof.Ref.lean ====
module
public import proofs.«01_k».proof.Proof.Gen.ReferenceIdeal.Read
public import proofs.«01_k».proof.Proof.Spec
@[expose] public section
noncomputable section
namespace Cert.ReferenceIdeal.Read
open Cert.ReferenceIdeal Cert.ReferenceIdeal.Gen Idealize.ShloMosaic Idealize.ShloMosaic.TcCoe Idealize.SL.Sem Idealize.ShloMosaic.StableHlo
open Cert.Spec

/-! The reference's result at the ideal instance: the product of `Cert.Spec`. -/

/-- The reference's product of a slice of `x` with a plane of signed scales, by entry. -/
theorem dot_apply (y0 : FVec Ideal S768x1x2304 .bf16) (y1 : FVec Ideal S3x2304x7168 .bf16) (i : Fin 768) (q : Fin 3) (o : Fin 7168) :
    (Host.dotGeneral dot_S768x1x2304_S3x2304x7168_S768x1x3x7168_2_1_01_02_n_n none y0 y1 (ix4 i (0 : Fin 1) q o) : EReal)
    = ∑ k : Fin 2304, (y0 (ix3 i (0 : Fin 1) k) : EReal) * (y1 (ix3 q k o) : EReal) := by
  simp only [Host.dotGeneral]
  rw [Ideal.dotGeneral_apply, ← Equiv.sum_comp (ValueIdx.contrEquiv1 dot_S768x1x2304_S3x2304x7168_S768x1x3x7168_2_1_01_02_n_n 2304 rfl rfl).symm]
  refine Finset.sum_congr rfl fun k _ => ?_
  have hk := ValueIdx.contrEquiv1_symm_val dot_S768x1x2304_S3x2304x7168_S768x1x3x7168_2_1_01_02_n_n 2304 rfl rfl k
  have el : dot_S768x1x2304_S3x2304x7168_S768x1x3x7168_2_1_01_02_n_n.lhsIdx (ix4 i (0 : Fin 1) q o) ((ValueIdx.contrEquiv1 dot_S768x1x2304_S3x2304x7168_S768x1x3x7168_2_1_01_02_n_n 2304 rfl rfl).symm k) = ix3 i (0 : Fin 1) k := funext fun a => Fin.ext (by
    match a with
    | ⟨0, _⟩ => exact lhs_main_v14_0 _ _
    | ⟨1, _⟩ => exact lhs_main_v14_1 _ _
    | ⟨2, _⟩ => exact (lhs_main_v14_2 _ _).trans hk)
  have er : dot_S768x1x2304_S3x2304x7168_S768x1x3x7168_2_1_01_02_n_n.rhsIdx (ix4 i (0 : Fin 1) q o) ((ValueIdx.contrEquiv1 dot_S768x1x2304_S3x2304x7168_S768x1x3x7168_2_1_01_02_n_n 2304 rfl rfl).symm k) = ix3 q k o := funext fun a => Fin.ext (by
    match a with
    | ⟨0, _⟩ => exact rhs_main_v14_0 _ _
    | ⟨1, _⟩ => exact (rhs_main_v14_1 _ _).trans hk
    | ⟨2, _⟩ => exact rhs_main_v14_2 _ _)
  rw [el, er]

variable (x0 : (⟨S768x1x18432, .bf16⟩ : BufTy).Contents (Elt Ideal)) (x1 : (⟨S3x2304x7168, .i8⟩ : BufTy).Contents (Elt Ideal))
  (x2 : (⟨S3x144x7168, .bf16⟩ : BufTy).Contents (Elt Ideal))

/-- Every eighth entry of `x`, from `j`. -/
def xs (j : ℕ) (h : S768x1x2304x8.Slices ![0, 0, 0, j] S768x1x2304x1) : FVec Ideal S768x1x2304 .bf16 :=
  shapeCast S768x1x2304 (extractStridedSlice S768x1x2304x1 ![0, 0, 0, j] (val_main_v0 (F := Ideal) x0) h) shapeCasts_S768x1x2304x1_S768x1x2304

theorem xs_apply (j : ℕ) (hj : j < 8) (h : S768x1x2304x8.Slices ![0, 0, 0, j] S768x1x2304x1) (i : Fin 768) (k : Fin 2304) :
    (xs x0 j h (ix3 i (0 : Fin 1) k) : EReal) = x0 (ix3 i (0 : Fin 1) ⟨8 * k.val + j, by have := k.isLt; omega⟩) := by
  unfold xs
  rw [shapeCast_apply _ _ _ (ix4 i (0 : Fin 1) k (0 : Fin 1)) (by
      rw [Shape.rowMajor_val_four, Shape.rowMajor_val_three]
      show ((i.val * 1 + 0) * 2304 + k.val) * 1 + 0 = (i.val * 1 + 0) * 2304 + k.val
      omega),
    extractStridedSlice_apply ![0, 0, 0, j] _ h _ (ix4 i (0 : Fin 1) k (⟨j, hj⟩ : Fin 8)) (fun a => match a with
      | ⟨0, _⟩ => by show i.val = 0 + i.val; omega
      | ⟨1, _⟩ => by show 0 = 0 + 0; omega
      | ⟨2, _⟩ => by show k.val = 0 + k.val; omega
      | ⟨3, _⟩ => by show j = j + 0; omega)]
  unfold val_main_v0
  refine shapeCast_apply _ _ _ _ ?_
  show ((S768x1x18432.rowMajor (ix3 i (0 : Fin 1) ⟨8 * k.val + j, _⟩)) : ℕ) = _
  rw [Shape.rowMajor_val_four, Shape.rowMajor_val_three]
  show (i.val * 1 + 0) * 18432 + (8 * k.val + j) = ((i.val * 1 + 0) * 2304 + k.val) * 8 + j
  omega

/-- The signed scales of bit `j`. -/
def ws (j : BitVec 32) : FVec Ideal S3x2304x7168 .bf16 := fun z =>
  FloatOps.mulf (Scalar.select (IntOp.cmpi .eq (IntOp.andi (IntOp.shrsi .host ((x1 z).setWidth 32) j) 1#32) 1#32)
    (FloatOps.ofBits .bf16 0x3F80#16) (FloatOps.ofBits .bf16 0xBF80#16)) (val_main_v2 (F := Ideal) x2 z)

/-- A byte's bit as the reference takes it. -/
theorem bit_cmp (b : BitVec 8) (j : Fin 8) :
    IntOp.cmpi .eq (IntOp.andi (IntOp.shrsi .host (b.setWidth 32) (BitVec.ofNat 32 j.val)) 1#32) 1#32 = BitVec.ofBool (b.getLsbD j.val) := by
  have key : ∀ (n : Fin 256) (j : Fin 8), IntOp.cmpi .eq (IntOp.andi (IntOp.shrsi .host ((BitVec.ofFin (w := 8) n).setWidth 32) (BitVec.ofNat 32 j.val)) 1#32) 1#32
      = BitVec.ofBool ((BitVec.ofFin (w := 8) n).getLsbD j.val) := by decide +kernel
  exact key b.toFin j

theorem one_bf16 : (FloatOps.ofBits .bf16 0x3F80#16 : Ideal .bf16) = ((1 : ℝ) : EReal) := by
  show Ideal.ofBits .bf16 0x3F80#16 = _
  simp [Ideal.ofBits, Ideal.ieee]
  rw [← EReal.coe_mul]
  norm_num

theorem neg_one_bf16 : (FloatOps.ofBits .bf16 0xBF80#16 : Ideal .bf16) = ((-1 : ℝ) : EReal) := by
  show Ideal.ofBits .bf16 0xBF80#16 = _
  simp [Ideal.ofBits, Ideal.ieee]
  rw [← EReal.coe_mul]
  norm_num

/-- A scale, spread over its group of rows. -/
theorem scale_apply (q : Fin 3) (k : Fin 2304) (o : Fin 7168) :
    (val_main_v2 (F := Ideal) x2 (ix3 q k o) : EReal) = x2 (ix3 q ⟨k.val / 16, by have := k.isLt; omega⟩ o) := by
  have hq := q.isLt; have hk := k.isLt; have ho := o.isLt
  rw [val_main_v2_apply, val_main_v1_apply]
  congr 1
  funext a
  match a with
  | ⟨0, _⟩ => exact Fin.ext (show ((q.val * 2304 + k.val) * 7168 + o.val) / 16515072 = q.val by omega)
  | ⟨1, _⟩ => exact Fin.ext (show ((q.val * 2304 + k.val) * 7168 + o.val) / 114688 % 144 = k.val / 16 by omega)
  | ⟨2, _⟩ => exact Fin.ext (show ((q.val * 2304 + k.val) * 7168 + o.val) % 7168 = o.val by omega)

variable (h0 : ∀ y, (x0 y : EReal) = (((x0 y : EReal)).toReal : EReal)) (h2 : ∀ y, (x2 y : EReal) = (((x2 y : EReal)).toReal : EReal))

include h2 in
theorem ws_apply (j : Fin 8) (q : Fin 3) (k : Fin 2304) (o : Fin 7168) :
    (ws x1 x2 (BitVec.ofNat 32 j.val) (ix3 q k o) : EReal)
    = ((sg x1 q (8 * k.val + j.val) o * ar x2 q ((8 * k.val + j.val) / 128) o : ℝ) : EReal) := by
  have hk := k.isLt; have hj := j.isLt
  unfold ws
  rw [bit_cmp, one_bf16, neg_one_bf16]
  show (Scalar.select _ _ _ : EReal) * (val_main_v2 (F := Ideal) x2 (ix3 q k o) : EReal) = _
  rw [scale_apply, h2]
  unfold sg ar
  rw [dif_pos (show (8 * k.val + j.val) / 8 < 2304 by omega), dif_pos (show (8 * k.val + j.val) / 128 < 144 by omega)]
  have e1 : (⟨(8 * k.val + j.val) / 8, by omega⟩ : Fin 2304) = k := Fin.ext (by show (8 * k.val + j.val) / 8 = k.val; omega)
  have e2 : (⟨(8 * k.val + j.val) / 128, by omega⟩ : Fin 144) = ⟨k.val / 16, by omega⟩ := Fin.ext (by show (8 * k.val + j.val) / 128 = k.val / 16; omega)
  have e3 : (8 * k.val + j.val) % 8 = j.val := by omega
  rw [e1, e2, e3, EReal.coe_mul]
  congr 1
  unfold pm Scalar.select
  cases (x1 (ix3 q k o)).getLsbD j.val <;> rfl

include h0 h2 in
/-- Bit `j`'s part of plane `q`'s product. -/
theorem term_apply (j : Fin 8) (h : S768x1x2304x8.Slices ![0, 0, 0, j.val] S768x1x2304x1) (i : Fin 768) (q : Fin 3) (o : Fin 7168) :
    (Host.dotGeneral dot_S768x1x2304_S3x2304x7168_S768x1x3x7168_2_1_01_02_n_n none (xs x0 j.val h) (ws x1 x2 (BitVec.ofNat 32 j.val)) (ix4 i (0 : Fin 1) q o) : EReal)
    = ((∑ k ∈ Finset.range 2304, xr x0 i (8 * k + j.val) * (sg x1 q (8 * k + j.val) o * ar x2 q ((8 * k + j.val) / 128) o) : ℝ) : EReal) := by
  rw [dot_apply, Finset.sum_range, coe_sum]
  refine Finset.sum_congr rfl fun k _ => ?_
  have hk := k.isLt; have hj := j.isLt
  rw [ws_apply x1 x2 h2, xs_apply x0 j.val j.isLt h, EReal.coe_mul (xr x0 i (8 * k.val + j.val))]
  congr 1
  unfold xr
  rw [dif_pos (show 8 * k.val + j.val < 18432 by omega)]
  exact h0 _

theorem x_0 : val_main_v13 (F := Ideal) x0 = xs x0 0 slices_S768x1x2304x8_S768x1x2304x1_0_0_0_0 := rfl
theorem w_0 : val_main_v11 (F := Ideal) x1 x2 = ws x1 x2 0#32 := rfl
theorem x_1 : val_main_v25 (F := Ideal) x0 = xs x0 1 slices_S768x1x2304x8_S768x1x2304x1_0_0_0_1 := rfl
theorem w_1 : val_main_v23 (F := Ideal) x1 x2 = ws x1 x2 1#32 := rfl
theorem x_2 : val_main_v38 (F := Ideal) x0 = xs x0 2 slices_S768x1x2304x8_S768x1x2304x1_0_0_0_2 := rfl
theorem w_2 : val_main_v36 (F := Ideal) x1 x2 = ws x1 x2 2#32 := rfl
theorem x_3 : val_main_v51 (F := Ideal) x0 = xs x0 3 slices_S768x1x2304x8_S768x1x2304x1_0_0_0_3 := rfl
theorem w_3 : val_main_v49 (F := Ideal) x1 x2 = ws x1 x2 3#32 := rfl
theorem x_4 : val_main_v64 (F := Ideal) x0 = xs x0 4 slices_S768x1x2304x8_S768x1x2304x1_0_0_0_4 := rfl
theorem w_4 : val_main_v62 (F := Ideal) x1 x2 = ws x1 x2 4#32 := rfl
theorem x_5 : val_main_v77 (F := Ideal) x0 = xs x0 5 slices_S768x1x2304x8_S768x1x2304x1_0_0_0_5 := rfl
theorem w_5 : val_main_v75 (F := Ideal) x1 x2 = ws x1 x2 5#32 := rfl
theorem x_6 : val_main_v90 (F := Ideal) x0 = xs x0 6 slices_S768x1x2304x8_S768x1x2304x1_0_0_0_6 := rfl
theorem w_6 : val_main_v88 (F := Ideal) x1 x2 = ws x1 x2 6#32 := rfl
theorem x_7 : val_main_v103 (F := Ideal) x0 = xs x0 7 slices_S768x1x2304x8_S768x1x2304x1_0_0_0_7 := rfl
theorem w_7 : val_main_v101 (F := Ideal) x1 x2 = ws x1 x2 7#32 := rfl

include h0 h2 in
/-- Plane `q`'s product. -/
theorem plane_apply (i : Fin 768) (q : Fin 3) (o : Fin 7168) :
    (val_main_v105 (F := Ideal) x0 x1 x2 (ix4 i (0 : Fin 1) q o) : EReal)
    = ((∑ j ∈ Finset.range 8, ∑ k ∈ Finset.range 2304, xr x0 i (8 * k + j) * (sg x1 q (8 * k + j) o * ar x2 q ((8 * k + j) / 128) o) : ℝ) : EReal) := by
  unfold val_main_v105 val_main_v92 val_main_v79 val_main_v66 val_main_v53 val_main_v40 val_main_v27 val_main_v14 val_main_v26 val_main_v39 val_main_v52 val_main_v65 val_main_v78 val_main_v91 val_main_v104
  rw [x_0, w_0, x_1, w_1, x_2, w_2, x_3, w_3, x_4, w_4, x_5, w_5, x_6, w_6, x_7, w_7]
  show (((((((Host.dotGeneral dot_S768x1x2304_S3x2304x7168_S768x1x3x7168_2_1_01_02_n_n none (xs x0 0 slices_S768x1x2304x8_S768x1x2304x1_0_0_0_0) (ws x1 x2 0#32) (ix4 i (0 : Fin 1) q o) : EReal) + (Host.dotGeneral dot_S768x1x2304_S3x2304x7168_S768x1x3x7168_2_1_01_02_n_n none (xs x0 1 slices_S768x1x2304x8_S768x1x2304x1_0_0_0_1) (ws x1 x2 1#32) (ix4 i (0 : Fin 1) q o) : EReal)) + (Host.dotGeneral dot_S768x1x2304_S3x2304x7168_S768x1x3x7168_2_1_01_02_n_n none (xs x0 2 slices_S768x1x2304x8_S768x1x2304x1_0_0_0_2) (ws x1 x2 2#32) (ix4 i (0 : Fin 1) q o) : EReal)) + (Host.dotGeneral dot_S768x1x2304_S3x2304x7168_S768x1x3x7168_2_1_01_02_n_n none (xs x0 3 slices_S768x1x2304x8_S768x1x2304x1_0_0_0_3) (ws x1 x2 3#32) (ix4 i (0 : Fin 1) q o) : EReal)) + (Host.dotGeneral dot_S768x1x2304_S3x2304x7168_S768x1x3x7168_2_1_01_02_n_n none (xs x0 4 slices_S768x1x2304x8_S768x1x2304x1_0_0_0_4) (ws x1 x2 4#32) (ix4 i (0 : Fin 1) q o) : EReal)) + (Host.dotGeneral dot_S768x1x2304_S3x2304x7168_S768x1x3x7168_2_1_01_02_n_n none (xs x0 5 slices_S768x1x2304x8_S768x1x2304x1_0_0_0_5) (ws x1 x2 5#32) (ix4 i (0 : Fin 1) q o) : EReal)) + (Host.dotGeneral dot_S768x1x2304_S3x2304x7168_S768x1x3x7168_2_1_01_02_n_n none (xs x0 6 slices_S768x1x2304x8_S768x1x2304x1_0_0_0_6) (ws x1 x2 6#32) (ix4 i (0 : Fin 1) q o) : EReal)) + (Host.dotGeneral dot_S768x1x2304_S3x2304x7168_S768x1x3x7168_2_1_01_02_n_n none (xs x0 7 slices_S768x1x2304x8_S768x1x2304x1_0_0_0_7) (ws x1 x2 7#32) (ix4 i (0 : Fin 1) q o) : EReal) = _
  rw [show (Host.dotGeneral dot_S768x1x2304_S3x2304x7168_S768x1x3x7168_2_1_01_02_n_n none (xs x0 0 slices_S768x1x2304x8_S768x1x2304x1_0_0_0_0) (ws x1 x2 0#32) (ix4 i (0 : Fin 1) q o) : EReal) = _ from term_apply x0 x1 x2 h0 h2 0 slices_S768x1x2304x8_S768x1x2304x1_0_0_0_0 i q o]
  rw [show (Host.dotGeneral dot_S768x1x2304_S3x2304x7168_S768x1x3x7168_2_1_01_02_n_n none (xs x0 1 slices_S768x1x2304x8_S768x1x2304x1_0_0_0_1) (ws x1 x2 1#32) (ix4 i (0 : Fin 1) q o) : EReal) = _ from term_apply x0 x1 x2 h0 h2 1 slices_S768x1x2304x8_S768x1x2304x1_0_0_0_1 i q o]
  rw [show (Host.dotGeneral dot_S768x1x2304_S3x2304x7168_S768x1x3x7168_2_1_01_02_n_n none (xs x0 2 slices_S768x1x2304x8_S768x1x2304x1_0_0_0_2) (ws x1 x2 2#32) (ix4 i (0 : Fin 1) q o) : EReal) = _ from term_apply x0 x1 x2 h0 h2 2 slices_S768x1x2304x8_S768x1x2304x1_0_0_0_2 i q o]
  rw [show (Host.dotGeneral dot_S768x1x2304_S3x2304x7168_S768x1x3x7168_2_1_01_02_n_n none (xs x0 3 slices_S768x1x2304x8_S768x1x2304x1_0_0_0_3) (ws x1 x2 3#32) (ix4 i (0 : Fin 1) q o) : EReal) = _ from term_apply x0 x1 x2 h0 h2 3 slices_S768x1x2304x8_S768x1x2304x1_0_0_0_3 i q o]
  rw [show (Host.dotGeneral dot_S768x1x2304_S3x2304x7168_S768x1x3x7168_2_1_01_02_n_n none (xs x0 4 slices_S768x1x2304x8_S768x1x2304x1_0_0_0_4) (ws x1 x2 4#32) (ix4 i (0 : Fin 1) q o) : EReal) = _ from term_apply x0 x1 x2 h0 h2 4 slices_S768x1x2304x8_S768x1x2304x1_0_0_0_4 i q o]
  rw [show (Host.dotGeneral dot_S768x1x2304_S3x2304x7168_S768x1x3x7168_2_1_01_02_n_n none (xs x0 5 slices_S768x1x2304x8_S768x1x2304x1_0_0_0_5) (ws x1 x2 5#32) (ix4 i (0 : Fin 1) q o) : EReal) = _ from term_apply x0 x1 x2 h0 h2 5 slices_S768x1x2304x8_S768x1x2304x1_0_0_0_5 i q o]
  rw [show (Host.dotGeneral dot_S768x1x2304_S3x2304x7168_S768x1x3x7168_2_1_01_02_n_n none (xs x0 6 slices_S768x1x2304x8_S768x1x2304x1_0_0_0_6) (ws x1 x2 6#32) (ix4 i (0 : Fin 1) q o) : EReal) = _ from term_apply x0 x1 x2 h0 h2 6 slices_S768x1x2304x8_S768x1x2304x1_0_0_0_6 i q o]
  rw [show (Host.dotGeneral dot_S768x1x2304_S3x2304x7168_S768x1x3x7168_2_1_01_02_n_n none (xs x0 7 slices_S768x1x2304x8_S768x1x2304x1_0_0_0_7) (ws x1 x2 7#32) (ix4 i (0 : Fin 1) q o) : EReal) = _ from term_apply x0 x1 x2 h0 h2 7 slices_S768x1x2304x8_S768x1x2304x1_0_0_0_7 i q o]
  simp only [Finset.sum_range_succ _ 0, Finset.sum_range_succ _ 1, Finset.sum_range_succ _ 2, Finset.sum_range_succ _ 3, Finset.sum_range_succ _ 4, Finset.sum_range_succ _ 5, Finset.sum_range_succ _ 6, Finset.sum_range_succ _ 7, Finset.sum_range_zero, zero_add, EReal.coe_add]
  rfl

include h0 h2 in
/-- The reference's result is the product. -/
theorem result_apply (i : Fin 768) (o : Fin 7168) :
    (val_main_v108 (F := Ideal) x0 x1 x2 (ix2 i o) : EReal) = ((prod x0 x1 x2 i o : ℝ) : EReal) := by
  have hi := i.isLt; have ho := o.isLt
  have e : idx_main_v108 (ix2 i o) = ix3 i (0 : Fin 1) o := by
    funext a
    match a with
    | ⟨0, _⟩ => exact Fin.ext (show (i.val * 7168 + o.val) / 7168 = i.val by omega)
    | ⟨1, _⟩ => rfl
    | ⟨2, _⟩ => exact Fin.ext (show (i.val * 7168 + o.val) % 7168 = o.val by omega)
  rw [val_main_v108_apply, e]
  show (val_main_v106 (F := Ideal) x0 x1 x2 (ix3 i (0 : Fin 1) o) : EReal) = _
  rw [val_main_v106_apply]
  have z : (val_main_cst_38 (F := Ideal) (Shape.Idx.first h_S_) : EReal) = 0 := Ideal.ofBits_zero_f32
  rw [z, zero_add]
  have e2 : ∀ q : Fin 3, idx_main_v106 (ix3 i (0 : Fin 1) o) q = ix4 i (0 : Fin 1) q o := fun q => by
    funext a
    match a with
    | ⟨0, _⟩ => rfl
    | ⟨1, _⟩ => rfl
    | ⟨2, _⟩ => rfl
    | ⟨3, _⟩ => rfl
  have hs := fun q : Fin 3 => (congrArg (val_main_v105 (F := Ideal) x0 x1 x2) (e2 q)).trans (plane_apply x0 x1 x2 h0 h2 i q o)
  refine (Finset.sum_congr rfl fun q _ => hs q).trans ?_
  rw [← coe_sum]
  refine congrArg Real.toEReal ?_
  unfold Cert.Spec.prod
  refine Eq.trans ?_ (sum_stretches (fun κ => xr x0 i κ * wt x1 x2 κ o) 2304 8).symm
  rw [Finset.sum_comm, Finset.sum_comm (s := Finset.range 2304)]
  refine Finset.sum_congr rfl fun j _ => ?_
  rw [Finset.sum_comm]
  refine Finset.sum_congr rfl fun k _ => ?_
  unfold wt
  rw [Finset.mul_sum]

end Cert.ReferenceIdeal.Read
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.P.Frame
public import proofs.«01_k».proof.Proof.PI.Frame
public import proofs.«01_k».proof.Proof.PI.Value
public import proofs.«01_k».proof.Proof.Ref
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-- The reference run at the ideal instance ends, leaves its three arguments as they were, and leaves every semaphore at
    zero, since it declares none. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The bf16 pattern of infinity denotes the top of the extended reals. -/
theorem top_bf16 : (FloatOps.ofBits .bf16 0x7F80#16 : Ideal .bf16) = (⊤ : EReal) := by
  show Ideal.ofBits .bf16 0x7F80#16 = _
  simp [Ideal.ofBits, Ideal.ieee]

/-- A value whose absolute value compares below infinity is a real. -/
theorem real_of_lt (a : EReal) (h : FloatOps.cmpf (F := Ideal) (φ := .bf16) .olt (FloatOps.absf (F := Ideal) (φ := .bf16) a)
    (FloatOps.ofBits .bf16 0x7F80#16) = 1#1) : a = (a.toReal : EReal) := by
  rw [top_bf16, Ideal.cmpf_def, Ideal.absf_def] at h
  have hlt : max a (-a) < (⊤ : EReal) := by
    by_contra hn
    simp [Ideal.cmp, hn] at h
  refine (EReal.coe_toReal ?_ ?_).symm
  · rintro rfl; simp at hlt
  · rintro rfl; simp at hlt

/-- The precondition makes every entry of `x` and of the scales a real. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ y, Cert.KernelIdeal.Gen.X0 m c y = ((Cert.KernelIdeal.Gen.X0 m c y).toReal : EReal))
    ∧ (∀ y, Cert.KernelIdeal.Gen.X2 m c y = ((Cert.KernelIdeal.Gen.X2 m c y).toReal : EReal)) := by
  have hc := congrFun (h c) (fun a => a.elim0)
  have hs := IntOp.andi_eq_one.mp hc
  have : Subsingleton Cert.Pre_finite.S_.Idx := ⟨fun a b => funext fun k => k.elim0⟩
  exact ⟨fun y => real_of_lt _ (Host.reduce_andi_all _ _ _ _ _ hs.1 y), fun y => real_of_lt _ (Host.reduce_andi_all _ _ _ _ _ hs.2 y)⟩

/-- From finite arguments that agree, the kernel and the reference end with the same result array. -/
theorem algebraic : Cert.algebraic_KernelIdeal_ReferenceIdeal_pre_finite := by
  intro m g m' g' hpre hargs
  have hf := finite_of_pre m hpre
  refine ⟨fun c => Cert.KernelIdeal.Gen.result m c,
    Cert.KernelIdeal.Gen.run_value m g (fun c => (hf c).1) (fun c => (hf c).2), ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v108_eq m' c).trans ?_
  rw [(hargs c).1, (hargs c).2.1, (hargs c).2.2]
  funext y
  rw [show y = ix2 (y 0) (y 1) from funext fun a => match a with | ⟨0, _⟩ => rfl | ⟨1, _⟩ => rfl]
  exact Cert.ReferenceIdeal.Read.result_apply _ _ _ (hf c).1 (hf c).2 (y 0) (y 1)

theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g,
  fun m g _ => Cert.KernelIdeal.Gen.frame m g,
  fun m g _ => frame_r m g, fun m g _ => frame_r m g, trivial, algebraic⟩

end Cert.Proof

end
